-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S8x4096x128 : Shape := ⟨3, ![8, 4096, 128]⟩
abbrev S8 : Shape := ⟨1, ![8]⟩
abbrev S4x64x1024 : Shape := ⟨3, ![4, 64, 1024]⟩
abbrev S4 : Shape := ⟨1, ![4]⟩
abbrev S_ : Shape := ⟨0, ![]⟩
abbrev S1 : Shape := ⟨1, ![1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S1x4096 : Shape := ⟨2, ![1, 4096]⟩
abbrev S256x1024 : Shape := ⟨2, ![256, 1024]⟩
abbrev S64x1024 : Shape := ⟨2, ![64, 1024]⟩
abbrev S64x128 : Shape := ⟨2, ![64, 128]⟩
abbrev S64x4096 : Shape := ⟨2, ![64, 4096]⟩
abbrev S64 : Shape := ⟨1, ![64]⟩
abbrev S64x1 : Shape := ⟨2, ![64, 1]⟩
abbrev S128x1024 : Shape := ⟨2, ![128, 1024]⟩
abbrev S1x64x1024 : Shape := ⟨3, ![1, 64, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S8x4096x128, .f32⟩
  | .local _ .vmem, ⟨5, _⟩ => ⟨S8x4096x128, .f32⟩
  | .local _ .vmem, ⟨6, _⟩ => ⟨S4x64x1024, .f32⟩
  | .local _ .vmem, ⟨7, _⟩ => ⟨S4x64x1024, .f32⟩
  | .local _ .vmem, ⟨8, _⟩ => ⟨S4x64x1024, .f32⟩
  | .local _ .vmem, ⟨9, _⟩ => ⟨S4x64x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) (c0_i32_6 : BitVec 32) : Fin 4 → Nat :=
  let c0_i32_7 : BitVec 32 := 0#32
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v10 : BitVec 32 := Scalar.muli v2 c8_i32
  let v11 : BitVec 32 := Scalar.addi v10 c0_i32_6
  let c0_i32_13 : BitVec 32 := 0#32
  ![0, 0, v11.toNat, 0]
def k0_dev3 (d0 : Dev nD) : Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_391 : BitVec 32 := 1#32
  let v514 : BitVec 32 := Scalar.muli v3 c1_i32_391
  let v515 : BitVec 32 := Scalar.addi c0_i32_392 v514
  v515.toNat
def k0_dev4 (d0 : Dev nD) : Nat :=
  let c0_i32_502 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_501 : BitVec 32 := 1#32
  let v672 : BitVec 32 := Scalar.muli v3 c1_i32_501
  let v673 : BitVec 32 := Scalar.addi c0_i32_502 v672
  v673.toNat
def k0_dev5 (d0 : Dev nD) : Nat :=
  let c0_i32_531 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_530 : BitVec 32 := 1#32
  let v698 : BitVec 32 := Scalar.muli v4 c1_i32_530
  let v699 : BitVec 32 := Scalar.addi c0_i32_531 v698
  v699.toNat
def k0_dev6 (d0 : Dev nD) : Nat :=
  let c0_i32_641 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_640 : BitVec 32 := 1#32
  let v856 : BitVec 32 := Scalar.muli v3 c1_i32_640
  let v857 : BitVec 32 := Scalar.addi c0_i32_641 v856
  v857.toNat
def k0_dev7 (d0 : Dev nD) : Nat :=
  let c0_i32_670 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_669 : BitVec 32 := 1#32
  let v882 : BitVec 32 := Scalar.muli v4 c1_i32_669
  let v883 : BitVec 32 := Scalar.addi c0_i32_670 v882
  v883.toNat
def k0_dev8 (d0 : Dev nD) : Nat :=
  let c0_i32_780 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_779 : BitVec 32 := 1#32
  let v1040 : BitVec 32 := Scalar.muli v3 c1_i32_779
  let v1041 : BitVec 32 := Scalar.addi c0_i32_780 v1040
  v1041.toNat
def k0_dev9 (d0 : Dev nD) : Nat :=
  let c0_i32_809 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_808 : BitVec 32 := 1#32
  let v1066 : BitVec 32 := Scalar.muli v4 c1_i32_808
  let v1067 : BitVec 32 := Scalar.addi c0_i32_809 v1066
  v1067.toNat
def k0_dev10 (d0 : Dev nD) : Nat :=
  let c0_i32_838 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_837 : BitVec 32 := 1#32
  let v1092 : BitVec 32 := Scalar.muli v4 c1_i32_837
  let v1093 : BitVec 32 := Scalar.addi c0_i32_838 v1092
  v1093.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x256x1024 : Shape := ⟨3, ![1, 256, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x256x4096 : Shape := ⟨3, ![1, 256, 4096]⟩
abbrev S1x256x32x128 : Shape := ⟨4, ![1, 256, 32, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x32x256x4096 : Shape := ⟨4, ![1, 32, 256, 4096]⟩
abbrev S1x1x256x4096 : Shape := ⟨4, ![1, 1, 256, 4096]⟩
abbrev S1x32x256 : Shape := ⟨3, ![1, 32, 256]⟩
abbrev S1x32x256x1 : Shape := ⟨4, ![1, 32, 256, 1]⟩
abbrev S1x1x256x1 : Shape := ⟨4, ![1, 1, 256, 1]⟩
abbrev S1x32x128x256 : Shape := ⟨4, ![1, 32, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x256x4096, .f32⟩
  | .hbm, ⟨6, _⟩ => ⟨S1x256x32x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S256x4096, .i32⟩
  | .hbm, ⟨48, _⟩ => ⟨S256x4096, .i32⟩
  | .hbm, ⟨49, _⟩ => ⟨S256x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S256x4096, .i1⟩
  | .hbm, ⟨54, _⟩ => ⟨S256x4096, .i1⟩
  | .hbm, ⟨55, _⟩ => ⟨S256x4096, .i32⟩
  | .hbm, ⟨56, _⟩ => ⟨S256x4096, .i32⟩
  | .hbm, ⟨57, _⟩ => ⟨S256x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x4096, .i32⟩
  | .hbm, ⟨65, _⟩ => ⟨S256x4096, .i32⟩
  | .hbm, ⟨66, _⟩ => ⟨S_, .i32⟩
  | .hbm, ⟨67, _⟩ => ⟨S256x4096, .i32⟩
  | .hbm, ⟨68, _⟩ => ⟨S256x4096, .i1⟩
  | .hbm, ⟨69, _⟩ => ⟨S_, .i32⟩
  | .hbm, ⟨70, _⟩ => ⟨S256x4096, .i32⟩
  | .hbm, ⟨71, _⟩ => ⟨S256x4096, .i1⟩
  | .hbm, ⟨72, _⟩ => ⟨S_, .i32⟩
  | .hbm, ⟨73, _⟩ => ⟨S_, .i1⟩
  | .hbm, ⟨74, _⟩ => ⟨S256x4096, .i1⟩
  | .hbm, ⟨75, _⟩ => ⟨S256x4096, .i1⟩
  | .hbm, ⟨76, _⟩ => ⟨S256x4096, .i1⟩
  | .hbm, ⟨77, _⟩ => ⟨S256x4096, .i32⟩
  | .hbm, ⟨78, _⟩ => ⟨S256x4096, .i32⟩
  | .hbm, ⟨79, _⟩ => ⟨S256x4096, .i32⟩
  | .hbm, ⟨80, _⟩ => ⟨S_, .i32⟩
  | .hbm, ⟨81, _⟩ => ⟨S256x4096, .i32⟩
  | .hbm, ⟨82, _⟩ => ⟨S256x4096, .i1⟩
  | .hbm, ⟨83, _⟩ => ⟨S256x4096, .i1⟩
  | .hbm, ⟨84, _⟩ => ⟨S1x32x256x4096, .f32⟩
  | .hbm, ⟨85, _⟩ => ⟨S_, .f32⟩
  | .hbm, ⟨86, _⟩ => ⟨S1x32x256x4096, .f32⟩
  | .hbm, ⟨87, _⟩ => ⟨S1x32x256x4096, .f32⟩
  | .hbm, ⟨88, _⟩ => ⟨S1x1x256x4096, .i1⟩
  | .hbm, ⟨89, _⟩ => ⟨S_, .f32⟩
  | .hbm, ⟨90, _⟩ => ⟨S_, .f32⟩
  | .hbm, ⟨91, _⟩ => ⟨S1x32x256x4096, .i1⟩
  | .hbm, ⟨92, _⟩ => ⟨S1x32x256x4096, .f32⟩
  | .hbm, ⟨93, _⟩ => ⟨S1x32x256x4096, .f32⟩
  | .hbm, ⟨94, _⟩ => ⟨S_, .f32⟩
  | .hbm, ⟨95, _⟩ => ⟨S1x32x256, .f32⟩
  | .hbm, ⟨96, _⟩ => ⟨S1x32x256x1, .f32⟩
  | .hbm, ⟨97, _⟩ => ⟨S1x32x256x4096, .f32⟩
  | .hbm, ⟨98, _⟩ => ⟨S1x32x256x4096, .f32⟩
  | .hbm, ⟨99, _⟩ => ⟨S1x32x256x4096, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x32x256, .f32⟩
  | .hbm, ⟨105, _⟩ => ⟨S1x32x256x1, .f32⟩
  | .hbm, ⟨106, _⟩ => ⟨S_, .f32⟩
  | .hbm, ⟨107, _⟩ => ⟨S_, .f32⟩
  | .hbm, ⟨108, _⟩ => ⟨S1x32x256x1, .i1⟩
  | .hbm, ⟨109, _⟩ => ⟨S1x32x256x1, .f32⟩
  | .hbm, ⟨110, _⟩ => ⟨S1x32x256x1, .f32⟩
  | .hbm, ⟨111, _⟩ => ⟨S1x32x256x4096, .f32⟩
  | .hbm, ⟨112, _⟩ => ⟨S1x32x256x4096, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x32x256x4096, .i1⟩
  | .hbm, ⟨117, _⟩ => ⟨S1x32x256x4096, .f32⟩
  | .hbm, ⟨118, _⟩ => ⟨S1x32x256x4096, .f32⟩
  | .hbm, ⟨119, _⟩ => ⟨S1x32x128x256, .f32⟩
  | .hbm, ⟨120, _⟩ => ⟨S1x256x32x128, .f32⟩
  | .hbm, ⟨121, _⟩ => ⟨S1x256x4096, .f32⟩
  | .hbm, ⟨122, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Attn.Acc.lean ====
/-
  The pure values of the kernel's body on one device, as functions of what it loads: the staged `x`, `Wq`, the eight
  local heads' keys and values and the eight row blocks of `Wo`. Each is the chain of the skeleton's payloads in
  program order, nothing else.
-/
module

public import proofs.«01_k».proof.Proof.Gen.KernelIdeal.Skeleton

@[expose] public section

noncomputable section

namespace Cert.AttnProof

open Idealize.ShloMosaic Idealize.SL.Sem
open Cert.KernelIdeal Cert.KernelIdeal.Gen

variable {F : FTy → Type} [FloatOps F] [Named F]

/-! ## The masks' biases -/

/-- The key positions 0, …, 4095. -/
def keyPos : IVec S1x4096 32 := iota .tc S1x4096 32 [1] iota_S1x4096_d1_w32
/-- Each key position's block number. -/
def keyBlk : IVec S1x4096 32 :=
  k0_pay3 keyPos 64#32 k0_pay1 k0_pay2 (Scalar.extui (Scalar.cmpi .sgt 64#32 0#32)) (Scalar.cmpi .slt 64#32 0#32)
/-- The additive bias of the rows of query block 0. -/
def bias0 : FVec F S1x4096 .f32 :=
  k0_pay4 keyPos 64#32 k0_pay1 k0_pay2 (Scalar.extui (Scalar.cmpi .sgt 64#32 0#32)) (Scalar.cmpi .slt 64#32 0#32)
/-- The additive bias of the rows of query block 1. -/
def bias1 : FVec F S1x4096 .f32 :=
  k0_pay7 keyBlk
    (k0_pay5 keyPos 64#32 k0_pay1 k0_pay2 (Scalar.extui (Scalar.cmpi .sgt 64#32 0#32)) (Scalar.cmpi .slt 64#32 0#32)) k0_pay6
/-- The additive bias of the rows of query block 2. -/
def bias2 : FVec F S1x4096 .f32 :=
  k0_pay12 (k0_pay8 keyBlk) (Scalar.select (Scalar.cmpi .eq 3#32 0#32) 1#32 3#32) (k0_pay9 keyBlk) (k0_pay10 keyBlk)
    (k0_pay11 keyBlk) 0#32
/-- The additive bias of the rows of query block 3. -/
def bias3 : FVec F S1x4096 .f32 := k0_pay13 keyBlk

/-! ## The device's partial results, one per query block -/

section
variable (x : Vec F S1x256x1024 .f32) (wq : Vec F S1024x1024 .f32) (K V : Fin 8 → Vec F S1x4096x128 .f32)
  (W : Fin 8 → Vec F S128x1024 .f32)

/-- The scaled queries. -/
abbrev qAll : FVec F S256x1024 .f32 := k0_pay14 x wq

/-- Query block 0's partial result after the heads 0 and 1. -/
def acc0a : FVec F S64x1024 .f32 :=
  k0_pay22 (k0_pay18 k0_pay15 (k0_pay16 bias0 x wq (K 0)) (k0_pay17 bias0 x wq (K 0)) (V 0) (W 0))
    (k0_pay19 bias0 (qAll x wq) (K 1)) (k0_pay20 bias0 (qAll x wq) (K 1)) (k0_pay21 (V 1)) (constant S64x128 .f32 0x00000000#32) (W 1)
/-- … after the heads 2 and 3. -/
def acc0b : FVec F S64x1024 .f32 :=
  k0_pay28 (k0_pay26 (acc0a x wq K V W) (k0_pay24 bias0 (qAll x wq) (K 2) (V 2)) (k0_pay25 bias0 (qAll x wq) (K 2)) (W 2))
    (k0_pay27 bias0 (qAll x wq) (K 3) (V 3)) (W 3)
/-- … after the heads 4, 5 and 6. -/
def acc0c : FVec F S64x1024 .f32 :=
  k0_pay33 bias0 (qAll x wq) (k0_pay30 (acc0b x wq K V W) (k0_pay29 bias0 (qAll x wq) (K 4) (V 4)) (W 4))
    (k0_pay31 bias0 (qAll x wq) (K 5) (V 5)) (k0_pay32 (W 5)) (constant S64x1024 .f32 0x00000000#32) (K 6) (V 6) (W 6)
/-- … after all eight: what the device sends. -/
def acc0 : FVec F S64x1024 .f32 := k0_pay34 bias0 (qAll x wq) (acc0c x wq K V W) (K 7) (V 7) (W 7)

/-- Query block 1's partial result after the head 0; -/
def acc1a : FVec F S64x1024 .f32 := k0_pay36 bias1 (qAll x wq) (K 0) (V 0) (W 0)
/-- … after the heads 1 to 4; -/
def acc1b : FVec F S64x1024 .f32 :=
  k0_pay40 bias1 (qAll x wq)
    (k0_pay38 bias1 (qAll x wq) (acc1a x wq K V W) (k0_pay37 (qAll x wq)) (K 1) (V 1) (W 1) (K 2) (V 2) (W 2))
    (k0_pay39 (qAll x wq)) (K 3) (V 3) (W 3) (K 4) (V 4) (W 4)
/-- … after all eight, as the vector stored. -/
def acc1 : FVec F S1x64x1024 .f32 :=
  k0_pay44 bias1 (k0_pay42 bias1 (qAll x wq) (acc1b x wq K V W) (k0_pay41 (qAll x wq)) (K 5) (V 5) (W 5) (K 6) (V 6) (W 6))
    (k0_pay43 (qAll x wq)) (K 7) (V 7) (W 7)

/-- Query block 2's partial result after the heads 0 to 3; -/
def acc2a : FVec F S64x1024 .f32 :=
  k0_pay50 bias2 (qAll x wq)
    (k0_pay48 bias2 (qAll x wq) k0_pay46 (k0_pay47 (qAll x wq)) (K 0) (V 0) (W 0) (K 1) (V 1) (W 1))
    (k0_pay49 (qAll x wq)) (K 2) (V 2) (W 2) (K 3) (V 3) (W 3)
/-- … after all eight. -/
def acc2 : FVec F S64x1024 .f32 :=
  k0_pay54 bias2 (qAll x wq)
    (k0_pay52 bias2 (qAll x wq) (acc2a x wq K V W) (k0_pay51 (qAll x wq)) (K 4) (V 4) (W 4) (K 5) (V 5) (W 5))
    (k0_pay53 (qAll x wq)) (K 6) (V 6) (W 6) (K 7) (V 7) (W 7)

/-- Query block 3's partial result after the head 0; -/
def acc3a : FVec F S64x1024 .f32 := k0_pay57 bias3 (qAll x wq) (K 0) (V 0) (W 0)
/-- … after the heads 1 and 2; -/
def acc3b : FVec F S64x1024 .f32 :=
  k0_pay60 bias3 (qAll x wq) (acc3a x wq K V W) (k0_pay58 (qAll x wq)) (k0_pay59 (K 1)) (V 1) (W 1) (K 2) (V 2) (W 2)
/-- … after the heads 3 and 4; -/
def acc3c : FVec F S64x1024 .f32 :=
  k0_pay63 bias3 (qAll x wq) (acc3b x wq K V W) (k0_pay61 (qAll x wq)) (k0_pay62 (K 3)) (V 3) (W 3) (K 4) (V 4) (W 4)
/-- … after the heads 5 and 6; -/
def acc3d : FVec F S64x1024 .f32 :=
  k0_pay66 bias3 (qAll x wq) (acc3c x wq K V W) (k0_pay64 (qAll x wq)) (k0_pay65 (K 5)) (V 5) (W 5) (K 6) (V 6) (W 6)
/-- … after all eight, as the vector stored. -/
def acc3 : FVec F S1x64x1024 .f32 :=
  k0_pay69 bias3 (acc3d x wq K V W) (k0_pay67 (qAll x wq)) (k0_pay68 (K 7)) (V 7) (W 7)

/-- What the device stores in slot `q` of its first send buffer. -/
def accSt (q : Fin 4) : FVec F S1x64x1024 .f32 :=
  match q with
  | 0 => k0_pay35 (acc0 x wq K V W)
  | 1 => acc1 x wq K V W
  | 2 => k0_pay55 (acc2 x wq K V W)
  | 3 => acc3 x wq K V W

end

/-- The sum stored in slot `q` of the second send buffer, of the device's own partial result and its first partner's. -/
def midSt (q : Fin 4) (a b : FVec F S1x64x1024 .f32) : FVec F S1x64x1024 .f32 :=
  match q with
  | 0 => k0_pay45 a b
  | 1 => k0_pay56 a b
  | 2 => k0_pay70 a b
  | 3 => k0_pay71 a b

/-- The sum stored in row block `q` of the result, of the device's pair's sum and the other pair's. -/
def outSt (q : Fin 4) (a b : FVec F S1x64x1024 .f32) : FVec F S1x64x1024 .f32 :=
  match q with
  | 0 => k0_pay72 a b
  | 1 => k0_pay73 a b
  | 2 => k0_pay74 a b
  | 3 => k0_pay75 a b

end Cert.AttnProof

end
-- ==== Proof.Attn.Mem.lean ====
/-
  The memory of the kernel on one device, as this proof names it: the slots of the scratch buffers and of the key and
  value arrays, each slot's elements, what a load of a slot reads, and that a transfer or a store into a slot leaves the
  contents named here.
-/
module

public import proofs.«01_k».proof.Proof.Attn.Acc
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Partners -/

set_option backward.proofsInPublic true in
/-- The partner of the first exchange: the device's number with the last bit flipped. -/
def p1 (c : Dev nD) : Dev nD := ⟨if c.val % 2 = 0 then c.val + 1 else c.val - 1, by revert c; decide⟩
set_option backward.proofsInPublic true in
/-- The partner of the second exchange: three less the device's number. -/
def p2 (c : Dev nD) : Dev nD := ⟨3 - c.val, by revert c; decide⟩

theorem p1_p1 (c : Dev nD) : p1 (p1 c) = c := by revert c; decide
theorem p2_p2 (c : Dev nD) : p2 (p2 c) = c := by revert c; decide
theorem dev1_eq (c : Dev nD) : (⟨k0_dev1 c, k0_dev1_lt c⟩ : Dev nD) = p1 c := by revert c; decide
theorem dev2_eq (c : Dev nD) : (⟨k0_dev2 c, k0_dev2_lt c⟩ : Dev nD) = p2 c := by revert c; decide
theorem dev3_eq (c : Dev nD) : (⟨k0_dev3 c, k0_dev3_lt c⟩ : Dev nD) = p1 c := by revert c; decide
theorem dev4_eq (c : Dev nD) : (⟨k0_dev4 c, k0_dev4_lt c⟩ : Dev nD) = p1 c := by revert c; decide
theorem dev5_eq (c : Dev nD) : (⟨k0_dev5 c, k0_dev5_lt c⟩ : Dev nD) = p2 c := by revert c; decide
theorem dev6_eq (c : Dev nD) : (⟨k0_dev6 c, k0_dev6_lt c⟩ : Dev nD) = p1 c := by revert c; decide
theorem dev7_eq (c : Dev nD) : (⟨k0_dev7 c, k0_dev7_lt c⟩ : Dev nD) = p2 c := by revert c; decide
theorem dev8_eq (c : Dev nD) : (⟨k0_dev8 c, k0_dev8_lt c⟩ : Dev nD) = p1 c := by revert c; decide
theorem dev9_eq (c : Dev nD) : (⟨k0_dev9 c, k0_dev9_lt c⟩ : Dev nD) = p2 c := by revert c; decide
theorem dev10_eq (c : Dev nD) : (⟨k0_dev10 c, k0_dev10_lt c⟩ : Dev nD) = p2 c := by revert c; decide

/-! ## The buffers -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x256x1024 .f32 := Memref.whole cc0_stg3_0
abbrev keyM : Memref sig .tc .hbm S1x4096x32x128 .f32 := Memref.whole main_arg2
abbrev valM : Memref sig .tc .hbm S1x4096x32x128 .f32 := Memref.whole main_arg3
abbrev kM : Memref sig .tc .vmem S8x4096x128 .f32 := Memref.whole cc0_scratch0
abbrev vM : Memref sig .tc .vmem S8x4096x128 .f32 := Memref.whole cc0_scratch1
abbrev s1M : Memref sig .tc .vmem S4x64x1024 .f32 := Memref.whole cc0_scratch4
abbrev r1M : Memref sig .tc .vmem S4x64x1024 .f32 := Memref.whole cc0_scratch5
abbrev s2M : Memref sig .tc .vmem S4x64x1024 .f32 := Memref.whole cc0_scratch6
abbrev r2M : Memref sig .tc .vmem S4x64x1024 .f32 := Memref.whole cc0_scratch7

/-! ## Slots -/

theorem inb_sl (q : Fin 4) : ∀ a, (![q.val, 0, 0] : Fin 3 → Nat) a + S1x64x1024.size a ≤ S4x64x1024.size a := by revert q; decide
theorem inb_hd (h : Fin 8) : ∀ a, (![h.val, 0, 0] : Fin 3 → Nat) a + S1x4096x128.size a ≤ S8x4096x128.size a := by revert h; decide
theorem inb_wo (h : Fin 8) : ∀ a, (![128 * h.val, 0] : Fin 2 → Nat) a + S128x1024.size a ≤ S1024x1024.size a := by revert h; decide
theorem inb_out (q : Fin 4) : ∀ a, (![0, 64 * q.val, 0] : Fin 3 → Nat) a + S1x64x1024.size a ≤ S1x256x1024.size a := by revert q; decide
theorem inb_sem8 (h : Fin 8) : ∀ a, (![h.val] : Fin 1 → Nat) a + S1.size a ≤ S8.size a := by revert h; decide
theorem inb_sem4 (q : Fin 4) : ∀ a, (![q.val] : Fin 1 → Nat) a + S1.size a ≤ S4.size a := by revert q; decide

/-- Slot `q` of an exchange buffer; head `h` of the keys' or values' buffer; the row block of `Wo` of head `h`; row block
    `q` of the result; the staged blocks whole. -/
abbrev slR (q : Fin 4) : Rect S4x64x1024 := Rect.unit (s := S4x64x1024) ![q.val, 0, 0] S1x64x1024.size (inb_sl q)
abbrev hdR (h : Fin 8) : Rect S8x4096x128 := Rect.unit (s := S8x4096x128) ![h.val, 0, 0] S1x4096x128.size (inb_hd h)
abbrev woR (h : Fin 8) : Rect S1024x1024 := Rect.unit (s := S1024x1024) ![128 * h.val, 0] S128x1024.size (inb_wo h)
abbrev outR (q : Fin 4) : Rect S1x256x1024 := Rect.unit (s := S1x256x1024) ![0, 64 * q.val, 0] S1x64x1024.size (inb_out q)

abbrev slot (M : Memref sig .tc .vmem S4x64x1024 .f32) (q : Fin 4) : Memref sig .tc .vmem S64x1024 .f32 :=
  (M.slice (slR q) (fun _ => rfl)).squeeze S64x1024 squeezes_S1x64x1024_S64x1024
abbrev hd (M : Memref sig .tc .vmem S8x4096x128 .f32) (h : Fin 8) : Memref sig .tc .vmem S4096x128 .f32 :=
  (M.slice (hdR h) (fun _ => rfl)).squeeze S4096x128 squeezes_S1x4096x128_S4096x128
/-- Device `c`'s head `h` in the keys' or values' array: head `8 c + h` of the 32. -/
abbrev src (M : Memref sig .tc .hbm S1x4096x32x128 .f32) (c : Dev nD) (h : Fin 8) : Memref sig .tc .hbm S4096x128 .f32 :=
  (M.slice (Rect.unit (s := S1x4096x32x128) (k0_off1 c (BitVec.ofNat 32 h.val)) S1x4096x1x128.size (k0_off1_inb c h)) (fun _ => rfl)).squeeze
    S4096x128 squeezes_S1x4096x1x128_S4096x128

/-! ## The semaphores -/

abbrev barS : Sem sig := (SemArray.scalar (sig.barrier 0 rfl) : Sems sig S_).sem
abbrev sem8 (A : DmaSems sig S8) (h : Fin 8) : DmaSem sig :=
  ((A.slice (Rect.unit (s := S8) ![h.val] S1.size (inb_sem8 h))).squeeze S_ squeezes_S1_S_).sem
abbrev sem4 (A : DmaSems sig S4) (q : Fin 4) : DmaSem sig :=
  ((A.slice (Rect.unit (s := S4) ![q.val] S1.size (inb_sem4 q))).squeeze S_ squeezes_S1_S_).sem

theorem kSem_val (h : Fin 8) : (sem8 cc0_scratch2 h).val = 4 + h.val := by revert h; decide
theorem vSem_val (h : Fin 8) : (sem8 cc0_scratch3 h).val = 12 + h.val := by revert h; decide
theorem s1Sem_val (q : Fin 4) : (sem4 cc0_scratch8 q).val = 20 + q.val := by revert q; decide
theorem r1Sem_val (q : Fin 4) : (sem4 cc0_scratch9 q).val = 24 + q.val := by revert q; decide
theorem s2Sem_val (q : Fin 4) : (sem4 cc0_scratch10 q).val = 28 + q.val := by revert q; decide
theorem r2Sem_val (q : Fin 4) : (sem4 cc0_scratch11 q).val = 32 + q.val := by revert q; decide

/-! ## Amounts: every transfer of a head brings the same credit, and so does every transfer of a slot -/

def NK : ℕ := (hd kM 0).view.dmaCredit
def NS : ℕ := (slot s1M 0).view.dmaCredit
theorem NK_pos : 0 < NK := View.dmaCredit_pos _ (by decide)
theorem NS_pos : 0 < NS := View.dmaCredit_pos _ (by decide)
theorem NK_k (h : Fin 8) : (hd kM h).view.dmaCredit = NK := rfl
theorem NK_v (h : Fin 8) : (hd vM h).view.dmaCredit = NK := rfl
theorem NS_s1 (q : Fin 4) : (slot s1M q).view.dmaCredit = NS := rfl
theorem NS_r1 (q : Fin 4) : (slot r1M q).view.dmaCredit = NS := rfl
theorem NS_s2 (q : Fin 4) : (slot s2M q).view.dmaCredit = NS := rfl
theorem NS_r2 (q : Fin 4) : (slot r2M q).view.dmaCredit = NS := rfl

/-! ## A slot's elements -/

theorem slot_set (b : Memref sig .tc .vmem S4x64x1024 .f32) (q : Fin 4) : (slot b q).view.set = b.view.setOn (slR q).set :=
  (Memref.set_view_squeeze _ _).trans (View.set_slice _ _)
theorem hd_set (b : Memref sig .tc .vmem S8x4096x128 .f32) (h : Fin 8) : (hd b h).view.set = b.view.setOn (hdR h).set :=
  (Memref.set_view_squeeze _ _).trans (View.set_slice _ _)

theorem mem_slR (q : Fin 4) (i : S4x64x1024.Idx) : i ∈ (slR q).set ↔ i 0 = q := by
  rw [Rect.mem_set_unit]
  constructor
  · intro h
    have := h 0
    simp only [Matrix.cons_val_zero] at this
    exact Fin.ext (by have h1 : S1x64x1024.size 0 = 1 := rfl
                      omega)
  · rintro rfl a
    have h0 := (i 0).isLt; have h1 := (i 1).isLt; have h2 := (i 2).isLt
    match a with
    | ⟨0, _⟩ => exact ⟨le_refl _, Nat.lt_succ_self _⟩
    | ⟨1, _⟩ => exact ⟨Nat.zero_le _, by show (i 1).val < 0 + 64; rw [Nat.zero_add]; exact h1⟩
    | ⟨2, _⟩ => exact ⟨Nat.zero_le _, by show (i 2).val < 0 + 1024; rw [Nat.zero_add]; exact h2⟩

theorem mem_hdR (h : Fin 8) (i : S8x4096x128.Idx) : i ∈ (hdR h).set ↔ i 0 = h := by
  rw [Rect.mem_set_unit]
  constructor
  · intro h
    have := h 0
    simp only [Matrix.cons_val_zero] at this
    exact Fin.ext (by have h1 : S1x4096x128.size 0 = 1 := rfl
                      omega)
  · rintro rfl a
    have h0 := (i 0).isLt; have h1 := (i 1).isLt; have h2 := (i 2).isLt
    match a with
    | ⟨0, _⟩ => exact ⟨le_refl _, Nat.lt_succ_self _⟩
    | ⟨1, _⟩ => exact ⟨Nat.zero_le _, by show (i 1).val < 0 + 4096; rw [Nat.zero_add]; exact h1⟩
    | ⟨2, _⟩ => exact ⟨Nat.zero_le _, by show (i 2).val < 0 + 128; rw [Nat.zero_add]; exact h2⟩

/-! ## Where a slot's elements lie -/

theorem reshape_1a1b {a b : ℕ} (h : (⟨2, ![a, b]⟩ : Shape).numel = (⟨4, ![1, a, 1, b]⟩ : Shape).numel) (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])

theorem slR_emb (q : Fin 4) (u : Fin 1) (a : Fin 64) (b : Fin 1024) : (slR q).emb (ix3 u a b) = ix3 q a b := by
  funext d
  match d with
  | ⟨0, _⟩ => exact Fin.ext (by show q.val + 1 * u.val = q.val; omega)
  | ⟨1, _⟩ => exact Fin.ext (by show 0 + 1 * a.val = a.val; omega)
  | ⟨2, _⟩ => exact Fin.ext (by show 0 + 1 * b.val = b.val; omega)

theorem hdR_emb (h : Fin 8) (u : Fin 1) (a : Fin 4096) (b : Fin 128) : (hdR h).emb (ix3 u a b) = ix3 h a b := by
  funext d
  match d with
  | ⟨0, _⟩ => exact Fin.ext (by show h.val + 1 * u.val = h.val; omega)
  | ⟨1, _⟩ => exact Fin.ext (by show 0 + 1 * a.val = a.val; omega)
  | ⟨2, _⟩ => exact Fin.ext (by show 0 + 1 * b.val = b.val; omega)

/-- Device `c`'s head `h` among the 32. -/
def head (c : Dev nD) (h : Fin 8) : Fin 32 := ⟨8 * c.val + h.val, by have := h.isLt; have h4 : c.val < 4 := c.isLt; omega⟩

theorem srcR_emb (c : Dev nD) (h : Fin 8) (u w : Fin 1) (a : Fin 4096) (b : Fin 128) :
    (Rect.unit (s := S1x4096x32x128) (k0_off1 c (BitVec.ofNat 32 h.val)) S1x4096x1x128.size (k0_off1_inb c h)).emb (ix4 u a w b)
      = ix4 (0 : Fin 1) a (head c h) b := by
  funext d
  match d with
  | ⟨0, _⟩ => exact Fin.ext (by
      show k0_off1 c (BitVec.ofNat 32 h.val) 0 + 1 * u.val = 0
      rw [k0_off1_eq]; show 0 + 1 * u.val = 0; omega)
  | ⟨1, _⟩ => exact Fin.ext (by
      show k0_off1 c (BitVec.ofNat 32 h.val) 1 + 1 * a.val = a.val
      rw [k0_off1_eq]; show 0 + 1 * a.val = a.val; omega)
  | ⟨2, _⟩ => exact Fin.ext (by
      show k0_off1 c (BitVec.ofNat 32 h.val) 2 + 1 * w.val = 8 * c.val + h.val
      rw [k0_off1_eq]; show 8 * c.val + h.val + 1 * w.val = 8 * c.val + h.val; omega)
  | ⟨3, _⟩ => exact Fin.ext (by
      show k0_off1 c (BitVec.ofNat 32 h.val) 3 + 1 * b.val = b.val
      rw [k0_off1_eq]; show 0 + 1 * b.val = b.val; omega)

theorem src_set (b : Memref sig .tc .hbm S1x4096x32x128 .f32) (c : Dev nD) (h : Fin 8) : (src b c h).view.set
    = b.view.setOn (Rect.unit (s := S1x4096x32x128) (k0_off1 c (BitVec.ofNat 32 h.val)) S1x4096x1x128.size (k0_off1_inb c h)).set :=
  (Memref.set_view_squeeze _ _).trans (View.set_slice _ _)

theorem src_disjoint (c : Dev nD) {h h' : Fin 8} (hne : h ≠ h') (b : Memref sig .tc .hbm S1x4096x32x128 .f32) :
    Disjoint (src b c h).view.set (src b c h').view.set := by
  rw [src_set, src_set]
  unfold View.setOn
  rw [Finset.disjoint_map]
  refine Rect.unit_disjoint (2 : Fin 4) ?_
  rw [k0_off1_eq, k0_off1_eq]
  show 8 * c.val + h.val + 1 ≤ 8 * c.val + h'.val ∨ 8 * c.val + h'.val + 1 ≤ 8 * c.val + h.val
  have : h.val ≠ h'.val := fun e => hne (Fin.ext e)
  omega

theorem slot_disjoint {q q' : Fin 4} (hne : q ≠ q') (b : Memref sig .tc .vmem S4x64x1024 .f32) :
    Disjoint (slot b q).view.set (slot b q').view.set := by
  rw [slot_set, slot_set]
  unfold View.setOn
  rw [Finset.disjoint_map, Finset.disjoint_left]
  intro i hi hi'
  rw [mem_slR] at hi hi'
  exact hne (hi.symm.trans hi')

theorem hd_disjoint {h h' : Fin 8} (hne : h ≠ h') (b : Memref sig .tc .vmem S8x4096x128 .f32) :
    Disjoint (hd b h).view.set (hd b h').view.set := by
  rw [hd_set, hd_set]
  unfold View.setOn
  rw [Finset.disjoint_map, Finset.disjoint_left]
  intro i hi hi'
  rw [mem_hdR] at hi hi'
  exact hne (hi.symm.trans hi')

/-! ## Contents -/

/-- A keys' or values' array of the mesh, and what its eight heads on device `c` look like in the scratch buffer. -/
def local8 (f : S1x4096x32x128.Idx → Elt F .f32) (c : Dev nD) : S8x4096x128.Idx → Elt F .f32 :=
  fun i => f (ix4 (0 : Fin 1) (i 1) (head c (i 0)) (i 2))

/-- What a load of slot `q` reads off an exchange buffer holding `f`; of head `h` off a keys' or values' buffer; of the row
    block of head `h` off `Wo`. -/
def rdSlot (f : S4x64x1024.Idx → Elt F .f32) (q : Fin 4) : FVec F S1x64x1024 .f32 := s1M.view.readAt (Elt F) (slR q).toLoadRect f
def rdHd (f : S8x4096x128.Idx → Elt F .f32) (h : Fin 8) : Vec F S1x4096x128 .f32 := kM.view.readAt (Elt F) (hdR h).toLoadRect f
def rdWo (f : S1024x1024.Idx → Elt F .f32) (h : Fin 8) : Vec F S128x1024 .f32 := woM.view.readAt (Elt F) (woR h).toLoadRect f

/-- The contents of an exchange buffer whose slot `q` holds the vector `g q`. -/
def slots (g : Fin 4 → FVec F S1x64x1024 .f32) : S4x64x1024.Idx → Elt F .f32 := fun i => g (i 0) (ix3 (0 : Fin 1) (i 1) (i 2))
/-- The contents of the result whose row block `q` holds the vector `g q`. -/
def blocks (g : Fin 4 → FVec F S1x64x1024 .f32) : S1x256x1024.Idx → Elt F .f32 :=
  fun i => g ⟨(i 1).val / 64, by have h : (i 1).val < 256 := (i 1).isLt; omega⟩
    (ix3 (0 : Fin 1) (⟨(i 1).val % 64, Nat.mod_lt _ (by decide)⟩ : Fin 64) (i 2))

theorem ex_slot (i : S1x64x1024.Idx) : ∃ (a : Fin 64) (b : Fin 1024), i = ix3 (0 : Fin 1) a b :=
  ⟨i 1, i 2, (eq_ix3 i).trans (congrArg (fun u : Fin 1 => (ix3 u (i 1) (i 2) : S1x64x1024.Idx)) (Subsingleton.elim _ _))⟩
theorem ex_slots (i : S4x64x1024.Idx) : ∃ (q : Fin 4) (a : Fin 64) (b : Fin 1024), i = ix3 q a b := ⟨i 0, i 1, i 2, eq_ix3 i⟩
theorem ex_pair (i : S4096x128.Idx) : ∃ (a : Fin 4096) (b : Fin 128), i = ix2 a b := ⟨i 0, i 1, eq_ix2 i⟩

theorem rdSlot_slots (g : Fin 4 → FVec F S1x64x1024 .f32) (q : Fin 4) : rdSlot (slots g) q = g q := by
  funext i
  obtain ⟨a, b, rfl⟩ := ex_slot i
  exact congrArg (slots g) (slR_emb q 0 a b)

/-! ### Landings and stores -/

theorem src_emb (c : Dev nD) (h : Fin 8) (a : Fin 4096) (b : Fin 128) :
    (src keyM c h).view.emb (ix2 a b) = (ix4 (0 : Fin 1) a (head c h) b : S1x4096x32x128.Idx) :=
  (congrArg (fun j : S1x4096x1x128.Idx => (Rect.unit (s := S1x4096x32x128) (k0_off1 c (BitVec.ofNat 32 h.val)) S1x4096x1x128.size (k0_off1_inb c h)).emb j)
    (reshape_1a1b _ a b)).trans (srcR_emb c h _ _ a b)
theorem hd_emb (h : Fin 8) (a : Fin 4096) (b : Fin 128) :
    (hd kM h).view.emb (ix2 a b) = (ix3 h a b : S8x4096x128.Idx) :=
  (congrArg (fun j : S1x4096x128.Idx => (hdR h).emb j) (reshapeEquiv_ix2_1ab _ a b)).trans (hdR_emb h _ a b)

theorem land_k (f : S1x4096x32x128.Idx → Elt F .f32) (c : Dev nD) (h : Fin 8) (fd : S8x4096x128.Idx → Elt F .f32) :
    ∀ i ∈ (hd kM h).view.set, (hd kM h).view.write (Elt F) fd ((src keyM c h).view.read (Elt F) f) Finset.univ i = local8 f c i := by
  intro i hi
  obtain ⟨x, -, rfl⟩ := Finset.mem_map.mp hi
  rw [View.write_emb_of_mem _ _ (Finset.mem_univ x)]
  obtain ⟨a, b, rfl⟩ := ex_pair x
  exact (congrArg f (src_emb c h a b)).trans (congrArg (local8 f c) (hd_emb h a b)).symm

theorem land_v (f : S1x4096x32x128.Idx → Elt F .f32) (c : Dev nD) (h : Fin 8) (fd : S8x4096x128.Idx → Elt F .f32) :
    ∀ i ∈ (hd vM h).view.set, (hd vM h).view.write (Elt F) fd ((src valM c h).view.read (Elt F) f) Finset.univ i = local8 f c i :=
  land_k f c h fd

/-- A slot sent to the same slot of another exchange buffer lands as the sender's contents. -/
theorem land_slot (f fd : S4x64x1024.Idx → Elt F .f32) (q : Fin 4) :
    ∀ i ∈ (slot s1M q).view.set, (slot r1M q).view.write (Elt F) fd ((slot s1M q).view.read (Elt F) f) Finset.univ i = f i := by
  intro i hi
  obtain ⟨x, -, rfl⟩ := Finset.mem_map.mp hi
  exact View.write_emb_of_mem (v := (slot r1M q).view) _ _ (Finset.mem_univ x)

/-- A vector stored in slot `q` is what the slot then holds. -/
theorem store_slot (g : Fin 4 → FVec F S1x64x1024 .f32) (fd : S4x64x1024.Idx → Elt F .f32) (q : Fin 4) :
    ∀ i ∈ (slot s1M q).view.set, ((s1M.access (slR q) : View sig .tc _ _ _).write (Elt F) fd (g q) Finset.univ) i = slots g i := by
  intro i hi
  rw [slot_set] at hi
  obtain ⟨j, hj, rfl⟩ := Finset.mem_map.mp hi
  have hq := (mem_slR q j).mp hj
  obtain ⟨q', a, b, rfl⟩ := ex_slots j
  have hq' : q' = q := hq
  subst hq'
  have e : (s1M.access (slR q') : View sig .tc _ _ _).emb (ix3 (0 : Fin 1) a b) = s1M.view.emb (ix3 q' a b) := slR_emb q' 0 a b
  exact (congrArg _ e.symm).trans (View.write_emb_of_mem (v := (s1M.access (slR q') : View sig .tc _ _ _)) _ _ (Finset.mem_univ _))

/-- A vector stored in row block `q` of the result: with the earlier blocks in place, the first `q + 1` are. -/
theorem store_out (g : Fin 4 → FVec F S1x64x1024 .f32) (fd : S1x256x1024.Idx → Elt F .f32) (q : Fin 4)
    (hfd : ∀ (a : Fin 256) (b : Fin 1024), a.val < 64 * q.val → fd (ix3 (0 : Fin 1) a b) = blocks g (ix3 (0 : Fin 1) a b)) :
    ∀ (a : Fin 256) (b : Fin 1024), a.val < 64 * (q.val + 1) →
      ((outM.access (outR q) : View sig .tc _ _ _).write (Elt F) fd (g q) Finset.univ) (ix3 (0 : Fin 1) a b) = blocks g (ix3 (0 : Fin 1) a b) := by
  intro a b ha
  by_cases h : a.val < 64 * q.val
  · rw [← hfd a b h]
    refine View.write_of_not_mem (v := (outM.access (outR q) : View sig .tc _ _ _)) _ _ _ fun hm => ?_
    obtain ⟨x, -, hx⟩ := Finset.mem_map.mp hm
    have h1 : (64 * q.val + 1 * (x 1).val) = a.val := congrArg (fun i : S1x256x1024.Idx => (i 1).val) hx
    omega
  · obtain ⟨r, hr⟩ : ∃ r : Fin 64, a.val = 64 * q.val + r.val := ⟨⟨a.val - 64 * q.val, by omega⟩, by show a.val = _ + (a.val - _); omega⟩
    have e : (outM.access (outR q) : View sig .tc _ _ _).emb (ix3 (0 : Fin 1) r b) = (ix3 (0 : Fin 1) a b : S1x256x1024.Idx) := by
      funext d
      match d with
      | ⟨0, _⟩ => exact Fin.ext (by show 0 + 1 * 0 = 0; rfl)
      | ⟨1, _⟩ => exact Fin.ext (by show 64 * q.val + 1 * r.val = a.val; omega)
      | ⟨2, _⟩ => exact Fin.ext (by show 0 + 1 * b.val = b.val; omega)
    refine ((congrArg _ e.symm).trans (View.write_emb_of_mem (v := (outM.access (outR q) : View sig .tc _ _ _)) _ _ (Finset.mem_univ _))).trans ?_
    show g q (ix3 (0 : Fin 1) r b) = g ⟨a.val / 64, _⟩ (ix3 (0 : Fin 1) ⟨a.val % 64, _⟩ b)
    have e1 : (⟨a.val / 64, by have := a.isLt; omega⟩ : Fin 4) = q := Fin.ext (by show a.val / 64 = q.val; omega)
    have e2 : (⟨a.val % 64, Nat.mod_lt _ (by decide)⟩ : Fin 64) = r := Fin.ext (by show a.val % 64 = r.val; omega)
    rw [e1, e2]

end Cert.AttnProof

end
-- ==== Proof.Attn.Proto.lean ====
/-
  The protocol of the kernel's exchange, one round of every cell.

  On device `c`, with partners `p1 c` and `p2 c`:
  * the barrier cell is signalled once by `p1 c`, handing over `p1 c`'s first landing buffer, and once by `p2 c`, handing
    over `p2 c`'s second landing buffer; `c` waits for both;
  * the cell of head `h` of the keys (of the values) is credited by `c`'s own copy of that head: the slice of the array
    back and the head's scratch rows holding it;
  * the send cell of slot `q` of the first exchange is credited by `c`'s own transfer to `p1 c`: the lent half share of the
    slot back; the receive cell of slot `q` by `p1 c`'s transfer to `c`: the landing slot holding `p1 c`'s partial result;
  * the second exchange the same with `p2 c`, its slots holding the sums of the first.
-/
module

public import proofs.«01_k».proof.Proof.Attn.Mem

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's copy and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

def xC (c : Dev nD) : S1x256x1024.Idx → Elt F .f32 := m ((c : Thread nD τ).loc main_arg0)
def wqC (c : Dev nD) : S1024x1024.Idx → Elt F .f32 := m ((c : Thread nD τ).loc main_arg1)
def keyC (c : Dev nD) : S1x4096x32x128.Idx → Elt F .f32 := m ((c : Thread nD τ).loc main_arg2)
def valC (c : Dev nD) : S1x4096x32x128.Idx → Elt F .f32 := m ((c : Thread nD τ).loc main_arg3)
def woC (c : Dev nD) : S1024x1024.Idx → Elt F .f32 := m ((c : Thread nD τ).loc main_arg4)

/-- The scratch buffers of the keys and values once all eight heads have arrived. -/
def kC (c : Dev nD) : S8x4096x128.Idx → Elt F .f32 := local8 (keyC m c) c
def vC (c : Dev nD) : S8x4096x128.Idx → Elt F .f32 := local8 (valC m c) c

/-- Device `c`'s partial result of query block `q`; its pair's sum; the sum over all four devices. -/
def accC (c : Dev nD) (q : Fin 4) : FVec F S1x64x1024 .f32 :=
  accSt (xC m c) (wqC m c) (rdHd (kC m c)) (rdHd (vC m c)) (rdWo (woC m c)) q
def midC (c : Dev nD) (q : Fin 4) : FVec F S1x64x1024 .f32 := midSt q (accC m c q) (accC m (p1 c) q)
def sumC (c : Dev nD) (q : Fin 4) : FVec F S1x64x1024 .f32 := outSt q (midC m c q) (midC m (p2 c) q)

def s1C (c : Dev nD) : S4x64x1024.Idx → Elt F .f32 := slots (accC m c)
def s2C (c : Dev nD) : S4x64x1024.Idx → Elt F .f32 := slots (midC m c)
def outC (c : Dev nD) : S1x256x1024.Idx → Elt F .f32 := blocks (sumC m c)

/-! ## Ownership of slots -/

def keyP (c : Dev nD) (h : Fin 8) (f : S1x4096x32x128.Idx → Elt F .f32) : sProp 𝕄 :=
  (src keyM c h).view.loc (c : Thread nD τ) ↦[(src keyM c h).view.set]{fullShare} f
def valP (c : Dev nD) (h : Fin 8) (f : S1x4096x32x128.Idx → Elt F .f32) : sProp 𝕄 :=
  (src valM c h).view.loc (c : Thread nD τ) ↦[(src valM c h).view.set]{fullShare} f
def kP (c : Dev nD) (h : Fin 8) (f : S8x4096x128.Idx → Elt F .f32) : sProp 𝕄 :=
  (hd kM h).view.loc (c : Thread nD τ) ↦[(hd kM h).view.set]{fullShare} f
def vP (c : Dev nD) (h : Fin 8) (f : S8x4096x128.Idx → Elt F .f32) : sProp 𝕄 :=
  (hd vM h).view.loc (c : Thread nD τ) ↦[(hd vM h).view.set]{fullShare} f
def s1P (c : Dev nD) (q : Fin 4) (sh : PosShare TreeShare) (f : S4x64x1024.Idx → Elt F .f32) : sProp 𝕄 :=
  (slot s1M q).view.loc (c : Thread nD τ) ↦[(slot s1M q).view.set]{sh} f
def r1P (c : Dev nD) (q : Fin 4) (f : S4x64x1024.Idx → Elt F .f32) : sProp 𝕄 :=
  (slot r1M q).view.loc (c : Thread nD τ) ↦[(slot r1M q).view.set]{fullShare} f
def s2P (c : Dev nD) (q : Fin 4) (f : S4x64x1024.Idx → Elt F .f32) : sProp 𝕄 :=
  (slot s2M q).view.loc (c : Thread nD τ) ↦[(slot s2M q).view.set]{fullShare} f
def r2P (c : Dev nD) (q : Fin 4) (f : S4x64x1024.Idx → Elt F .f32) : sProp 𝕄 :=
  (slot r2M q).view.loc (c : Thread nD τ) ↦[(slot r2M q).view.set]{fullShare} f
/-- A landing buffer whole. -/
def r1W (c : Dev nD) (f : S4x64x1024.Idx → Elt F .f32) : sProp 𝕄 := ((c : Thread nD τ).loc cc0_scratch5) ↦{fullShare} f
def r2W (c : Dev nD) (f : S4x64x1024.Idx → Elt F .f32) : sProp 𝕄 := ((c : Thread nD τ).loc cc0_scratch7) ↦{fullShare} f

/-- The halves of a full share: the first is lent to a transfer, the second kept for reading. -/
abbrev shL : PosShare TreeShare := fullShare.left
abbrev shR : PosShare TreeShare := fullShare.right

/-! ## Cells -/

/-- A semaphore's number: the DMA ones as they are, the regular ones from 100. -/
def semIx : SemLoc sig → ℕ
  | .dma s => s.val
  | .reg s => 100 + s.val

abbrev cellAt (c : Dev nD) (s : SemLoc sig) : GSem nD τ sig := ((c : Thread nD τ), s)
abbrev barL : SemLoc sig := .reg barS
abbrev kL (h : Fin 8) : SemLoc sig := .dma (sem8 cc0_scratch2 h)
abbrev vL (h : Fin 8) : SemLoc sig := .dma (sem8 cc0_scratch3 h)
abbrev s1L (q : Fin 4) : SemLoc sig := .dma (sem4 cc0_scratch8 q)
abbrev r1L (q : Fin 4) : SemLoc sig := .dma (sem4 cc0_scratch9 q)
abbrev s2L (q : Fin 4) : SemLoc sig := .dma (sem4 cc0_scratch10 q)
abbrev r2L (q : Fin 4) : SemLoc sig := .dma (sem4 cc0_scratch11 q)

theorem ix_bar : semIx barL = 100 := by decide
theorem ix_k (h : Fin 8) : semIx (kL h) = 4 + h.val := kSem_val h
theorem ix_v (h : Fin 8) : semIx (vL h) = 12 + h.val := vSem_val h
theorem ix_s1 (q : Fin 4) : semIx (s1L q) = 20 + q.val := s1Sem_val q
theorem ix_r1 (q : Fin 4) : semIx (r1L q) = 24 + q.val := r1Sem_val q
theorem ix_s2 (q : Fin 4) : semIx (s2L q) = 28 + q.val := s2Sem_val q
theorem ix_r2 (q : Fin 4) : semIx (r2L q) = 32 + q.val := r2Sem_val q

/-! ## The schedule -/

def kPay (c : Dev nD) (h : Fin 8) : sProp 𝕄 := iprop(kP c h (kC m c) ∗ keyP c h (keyC m c))
def vPay (c : Dev nD) (h : Fin 8) : sProp 𝕄 := iprop(vP c h (vC m c) ∗ valP c h (valC m c))
def s1Pay (c : Dev nD) (q : Fin 4) : sProp 𝕄 := s1P c q shL (s1C m c)
def r1Pay (c : Dev nD) (q : Fin 4) : sProp 𝕄 := r1P c q (s1C m (p1 c))
def s2Pay (c : Dev nD) (q : Fin 4) : sProp 𝕄 := s2P c q (s2C m c)
def r2Pay (c : Dev nD) (q : Fin 4) : sProp 𝕄 := r2P c q (s2C m (p2 c))
def barPay1 (c : Dev nD) : sProp 𝕄 := iprop(∃ f, r1W (p1 c) f)
def barPay2 (c : Dev nD) : sProp 𝕄 := iprop(∃ f, r2W (p2 c) f)

/-- The payload of the cell numbered `n` on device `c`. -/
def payN (c : Dev nD) (n : ℕ) (d : Bool) : sProp 𝕄 :=
  if n = 100 then (if d then barPay2 c else barPay1 c)
  else if n < 4 then iprop(emp)
  else if h : n - 4 < 8 then kPay m c ⟨n - 4, h⟩
  else if h : n - 12 < 8 then vPay m c ⟨n - 12, h⟩
  else if h : n - 20 < 4 then s1Pay m c ⟨n - 20, h⟩
  else if h : n - 24 < 4 then r1Pay m c ⟨n - 24, h⟩
  else if h : n - 28 < 4 then s2Pay m c ⟨n - 28, h⟩
  else if h : n - 32 < 4 then r2Pay m c ⟨n - 32, h⟩
  else iprop(emp)

/-- The amount of a duty of the cell numbered `n`. -/
def amtN (n : ℕ) : ℕ := if n = 100 then 1 else if n < 20 then NK else NS
theorem amtN_pos (n : ℕ) : 0 < amtN n := by
  unfold amtN; split_ifs
  · exact Nat.one_pos
  · exact NK_pos
  · exact NS_pos

/-- One round: a barrier cell has two duties of one unit, every transfer's cell the duty `false` of its credit. -/
def rd : Rounds.Schedule (GSem nD τ sig) Bool 𝕄 where
  duties g r := if r = 0 ∧ g.1.2 = .tc then
      (if semIx g.2 = 100 then Finset.univ else if 4 ≤ semIx g.2 ∧ semIx g.2 < 36 then {false} else ∅) else ∅
  unitless _ := False
  amount g _ _ := amtN (semIx g.2)
  payload g _ d := payN m g.1.1 (semIx g.2) d
  amount_pos g _ _ _ := amtN_pos _

instance payN_storable (c : Dev nD) (n : ℕ) (d : Bool) : BI.Storable (upEmb : UEmb _ 𝕄) (payN m c n d) := by
  unfold payN kPay vPay s1Pay r1Pay s2Pay r2Pay barPay1 barPay2 kP keyP vP valP s1P r1P s2P r2P r1W r2W
  (repeat' split) <;> infer_instance

instance rd_storable (g : GSem nD τ sig) (r : ℕ) (d : Bool) : BI.Storable (upEmb : UEmb _ 𝕄) ((rd (F := F) m).payload g r d) :=
  payN_storable m g.1.1 (semIx g.2) d

section Tables
variable (c : Dev nD)

theorem duties_later (g : GSem nD τ sig) : ∀ r, 1 ≤ r → (rd (F := F) m).duties g r = ∅ :=
  fun r hr => by dsimp only [rd]; rw [if_neg fun h => by omega]

theorem duties_bar : (rd (F := F) m).duties (cellAt c barL) 0 = Finset.univ := by
  dsimp only [rd]; rw [if_pos ⟨rfl, rfl⟩, if_pos ix_bar]

/-- A transfer's cell has the one duty `false`. -/
theorem duties_xfer {s : SemLoc sig} (h4 : 4 ≤ semIx s) (h36 : semIx s < 36) : (rd (F := F) m).duties (cellAt c s) 0 = {false} := by
  dsimp only [rd]
  have hne : ¬ (semIx s = 100) := by omega
  rw [if_pos ⟨rfl, rfl⟩, if_neg hne, if_pos ⟨h4, h36⟩]

theorem amount_bar (d : Bool) : (rd (F := F) m).amount (cellAt c barL) 0 d = 1 := by
  dsimp only [rd]; rw [ix_bar]; rfl
theorem amount_head {s : SemLoc sig} (h : semIx s < 20) (d : Bool) : (rd (F := F) m).amount (cellAt c s) 0 d = NK := by
  dsimp only [rd]; unfold amtN
  have hne : ¬ (semIx s = 100) := by omega
  rw [if_neg hne, if_pos h]
theorem amount_slot {s : SemLoc sig} (h : 20 ≤ semIx s) (h36 : semIx s < 36) (d : Bool) : (rd (F := F) m).amount (cellAt c s) 0 d = NS := by
  dsimp only [rd]; unfold amtN
  have hne : ¬ (semIx s = 100) := by omega
  have hn : ¬ (semIx s < 20) := by omega
  rw [if_neg hne, if_neg hn]

theorem expect_bar : (rd (F := F) m).expect (cellAt c barL) 0 = 2 := by
  unfold Schedule.expect Schedule.amountOf
  rw [duties_bar, Finset.sum_congr rfl fun d _ => amount_bar m c d, Finset.sum_const, Finset.card_univ, Fintype.card_bool, smul_eq_mul]
theorem expect_head {s : SemLoc sig} (h4 : 4 ≤ semIx s) (h : semIx s < 20) : (rd (F := F) m).expect (cellAt c s) 0 = NK := by
  unfold Schedule.expect Schedule.amountOf
  rw [duties_xfer m c h4 (by omega), Finset.sum_singleton, amount_head m c h]
theorem expect_slot {s : SemLoc sig} (h : 20 ≤ semIx s) (h36 : semIx s < 36) : (rd (F := F) m).expect (cellAt c s) 0 = NS := by
  unfold Schedule.expect Schedule.amountOf
  rw [duties_xfer m c (by omega) h36, Finset.sum_singleton, amount_slot m c h h36]

theorem payload_bar_false : (rd (F := F) m).payload (cellAt c barL) 0 false = barPay1 c := by
  show payN m c (semIx barL) false = _; rw [ix_bar]; rfl
theorem payload_bar_true : (rd (F := F) m).payload (cellAt c barL) 0 true = barPay2 c := by
  show payN m c (semIx barL) true = _; rw [ix_bar]; rfl
theorem payload_k (h : Fin 8) : (rd (F := F) m).payload (cellAt c (kL h)) 0 false = kPay m c h := by
  show payN m c (semIx (kL h)) false = _; rw [ix_k]; fin_cases h <;> rfl
theorem payload_v (h : Fin 8) : (rd (F := F) m).payload (cellAt c (vL h)) 0 false = vPay m c h := by
  show payN m c (semIx (vL h)) false = _; rw [ix_v]; fin_cases h <;> rfl
theorem payload_s1 (q : Fin 4) : (rd (F := F) m).payload (cellAt c (s1L q)) 0 false = s1Pay m c q := by
  show payN m c (semIx (s1L q)) false = _; rw [ix_s1]; fin_cases q <;> rfl
theorem payload_r1 (q : Fin 4) : (rd (F := F) m).payload (cellAt c (r1L q)) 0 false = r1Pay m c q := by
  show payN m c (semIx (r1L q)) false = _; rw [ix_r1]; fin_cases q <;> rfl
theorem payload_s2 (q : Fin 4) : (rd (F := F) m).payload (cellAt c (s2L q)) 0 false = s2Pay m c q := by
  show payN m c (semIx (s2L q)) false = _; rw [ix_s2]; fin_cases q <;> rfl
theorem payload_r2 (q : Fin 4) : (rd (F := F) m).payload (cellAt c (r2L q)) 0 false = r2Pay m c q := by
  show payN m c (semIx (r2L q)) false = _; rw [ix_r2]; fin_cases q <;> rfl

/-- What the wait for a whole round brings. -/
theorem rest_bar : bigSep ((rd (F := F) m).duties (cellAt c barL) 0 \ ∅) (fun d => (rd (F := F) m).payload (cellAt c barL) 0 d)
    = iprop(barPay1 c ∗ barPay2 c) := by
  rw [Finset.sdiff_empty, duties_bar, bigSep_univ_eq_bigSepL [false, true] (by decide) (by decide), bigSepL_cons_cons, bigSepL_singleton,
    payload_bar_false, payload_bar_true]
  rfl
theorem rest_xfer {s : SemLoc sig} (h4 : 4 ≤ semIx s) (h36 : semIx s < 36) :
    bigSep ((rd (F := F) m).duties (cellAt c s) 0 \ ∅) (fun d => (rd (F := F) m).payload (cellAt c s) 0 d)
      = (rd (F := F) m).payload (cellAt c s) 0 false := by
  rw [Finset.sdiff_empty, duties_xfer m c h4 h36, bigSep_singleton]

end Tables

/-! ## What a device owes, counted from the end; the levels -/

/-- The payments to partners, the last of the program first. -/
def paySem : ℕ → SemLoc sig
  | 0 => r2L 3 | 1 => r2L 2 | 2 => r1L 3 | 3 => r2L 1 | 4 => r1L 2 | 5 => r2L 0 | 6 => r1L 1 | 7 => r1L 0 | _ => barL
def payDev (c : Dev nD) : ℕ → Dev nD
  | 0 | 1 | 3 | 5 | 8 => p2 c
  | _ => p1 c
def payAmt (n : ℕ) : ℕ := if n < 8 then NS else 1

/-- What device `c` owes when `n` payments are left. -/
def Oe (c : Dev nD) : ℕ → CellTallies nD τ sig Unit
  | 0 => 0
  | n + 1 => Oe c n + tallyAt (cellAt (payDev c n) (paySem n)) () (payAmt n)

theorem Oe_pos {c : Dev nD} {n : ℕ} {g : GSem nD τ sig} {u : Unit} (h : 0 < Oe c n g u) :
    ∃ j < n, g = cellAt (payDev c j) (paySem j) := by
  induction n with
  | zero => exact absurd h (Nat.lt_irrefl 0)
  | succ n ih =>
    unfold Oe at h
    rw [Pi.add_apply, Finsupp.add_apply, tallyAt_apply] at h
    by_cases hg : g = cellAt (payDev c n) (paySem n) ∧ u = ()
    · exact ⟨n, Nat.lt_succ_self n, hg.1⟩
    · rw [if_neg hg, Nat.add_zero] at h
      obtain ⟨j, hj, e⟩ := ih h
      exact ⟨j, Nat.lt_succ_of_lt hj, e⟩

def L (g : GSem nD τ sig) : Finset Unit := if g.1.2 = .tc then {()} else ∅
/-- A cell's level by its number: barriers first, then the first exchange's receive cells slot by slot, then the second's;
    everything a device credits itself at the bottom. -/
def lvN (n : ℕ) : ℕ := if n = 100 then 1 else if 24 ≤ n ∧ n < 28 then n - 22 else if 32 ≤ n ∧ n < 36 then 10 else 0
def lv (g : GSem nD τ sig) (_ : Unit) : ℕ := lvN (semIx g.2)

theorem L_of_ne (g : GSem nD τ sig) (h : g.1.2 ≠ .tc) : L g = ∅ := if_neg h
theorem L_tc (c : Dev nD) (sm : SemLoc sig) : L ((c : Thread nD τ), sm) = {()} := if_pos rfl

/-- A device may wait on a cell of its own that lies below every cell it still has to pay. -/
theorem mayWait (c : Dev nD) (s : SemLoc sig) (n : ℕ) (h : ∀ j < n, lvN (semIx s) < lvN (semIx (paySem j))) :
    (levAts L lv : sProp 𝕄) ⊢ MayWait (c : Thread nD τ) s () (Oe c n) :=
  MayOwe.of_cut (L := L) (lev := lv) (lvN (semIx s)) (fun p hp => by rw [Finset.mem_singleton.mp hp, L_tc]; exact Finset.mem_singleton_self _)
    (fun g u hg => by obtain ⟨j, -, rfl⟩ := Oe_pos hg; rw [L_tc]; exact Finset.mem_singleton_self _)
    (fun p hp => by rw [Finset.mem_singleton.mp hp]; exact le_refl _)
    (fun g u hg => by obtain ⟨j, hj, rfl⟩ := Oe_pos hg; exact h j hj)

/-! ## The cells listed -/

/-- All 33 cells of a device: the 32 transfers' in order of their semaphores, then the barrier's. -/
def csem (k : Fin 33) : SemLoc sig := if h : k.val < 32 then .dma ⟨k.val + 4, by show k.val + 4 < 36; omega⟩ else barL
abbrev kcell (ck : Dev nD × Fin 33) : GSem nD τ sig := cellAt ck.1 (csem ck.2)

def kI (h : Fin 8) : Fin 33 := ⟨h.val, by omega⟩
def vI (h : Fin 8) : Fin 33 := ⟨8 + h.val, by omega⟩
def s1I (q : Fin 4) : Fin 33 := ⟨16 + q.val, by omega⟩
def r1I (q : Fin 4) : Fin 33 := ⟨20 + q.val, by omega⟩
def s2I (q : Fin 4) : Fin 33 := ⟨24 + q.val, by omega⟩
def r2I (q : Fin 4) : Fin 33 := ⟨28 + q.val, by omega⟩
def bI : Fin 33 := 32
theorem csem_k (h : Fin 8) : csem (kI h) = kL h := by revert h; decide
theorem csem_v (h : Fin 8) : csem (vI h) = vL h := by revert h; decide
theorem csem_s1 (q : Fin 4) : csem (s1I q) = s1L q := by revert q; decide
theorem csem_r1 (q : Fin 4) : csem (r1I q) = r1L q := by revert q; decide
theorem csem_s2 (q : Fin 4) : csem (s2I q) = s2L q := by revert q; decide
theorem csem_r2 (q : Fin 4) : csem (r2I q) = r2L q := by revert q; decide
theorem csem_b : csem bI = barL := by decide

/-- Every cell's invariant, under the names the launch allocated them at, and that every cell's round 0 is reached. -/
def records (K : Dev nD × Fin 33 → ℕ) : sProp 𝕄 :=
  bigSep Finset.univ fun ck : Dev nD × Fin 33 => iprop(cellInv ER (rd m) (K ck) (kcell ck) ∗ reached ER (kcell ck) 0)

instance records_persistent (K : Dev nD × Fin 33 → ℕ) : BI.Persistent (records m K) := by unfold records; infer_instance

theorem records_at (K : Dev nD × Fin 33 → ℕ) (c : Dev nD) {k : Fin 33} {s : SemLoc sig} (hs : csem k = s) :
    records m K ⊢ iprop(cellInv ER (rd m) (K (c, k)) (cellAt c s) ∗ reached ER (cellAt c s) 0) := by
  subst hs
  exact bigSep_elim (Φ := fun ck : Dev nD × Fin 33 => iprop(cellInv ER (rd m) (K ck) (kcell ck) ∗ reached ER (kcell ck) 0)) (Finset.mem_univ (c, k))

/-- A device's books at the moment `n` payments are left: the cells' records, the levels, and what it owes. -/
def acct (K : Dev nD × Fin 33 → ℕ) (c : Dev nD) (n : ℕ) : sProp 𝕄 :=
  iprop(records m K ∗ levAts L lv ∗ ∃ W, owes (c : Thread nD τ) (Oe c n) W)

end Cert.AttnProof

end
-- ==== Proof.Attn.Ops.lean ====
/-
  The rules for the kernel's operations at this protocol's cells: each says what an operation consumes and what the program
  continues with.
-/
module

public import proofs.«01_k».proof.Proof.Attn.Proto

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- The weakest precondition of a program on device `c`'s core. -/
abbrev wpp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Ops
variable (K : Dev nD × Fin 33 → ℕ) (c : Dev nD) {α : Type} {k : PUnit.{1} → Prog (TpuEff nD τ sig (Elt F) Λ₀ .tc) α}
  {Q : α → sProp (MT nD τ sig Unit (Elt F) ℕ UU ℕ)}

/-- Before its wait a device holds its position at the cell; after it, the next one. -/
abbrev pos0 (s : SemLoc sig) : sProp 𝕄 := atPos ER (cellAt c s) 0 ∅ 0
abbrev pos1 (s : SemLoc sig) : sProp 𝕄 := atPos ER (cellAt c s) (0 + 1) ∅ 0
abbrev tok (s : SemLoc sig) (d : Bool) : sProp 𝕄 := dutyTok ER (cellAt c s) 0 d
abbrev crd (s : SemLoc sig) (a : ℕ) : sProp 𝕄 := cred (tallyAt (cellAt c s) () a)

/-! ## Waits -/

theorem wp_waitAt {i : Fin 33} {s : SemLoc sig} (hs : csem i = s) (n a : ℕ) (hlv : ∀ j < n, lvN (semIx s) < lvN (semIx (paySem j)))
    (ha : (rd (F := F) m).expect (cellAt c s) 0 = a) {w : TpuEff nD τ sig (Elt F) Λ₀ .tc PUnit}
    (hw : ∀ Kq : PUnit → sProp 𝕄, wpE (defs₀ (F := F)) 𝒱₀ (c : Thread nD τ) none Set.univ w Kq = waitSpec (c : Thread nD τ) Set.univ s a Kq) :
    ⊢ iprop(acct m K c n -∗ crd c s a -∗ pos0 c s -∗
        (acct m K c n -∗ pos1 c s -∗ bigSep ((rd (F := F) m).duties (cellAt c s) 0 \ ∅) (fun d => (rd (F := F) m).payload (cellAt c s) 0 d) -∗ wpp c (k ⟨⟩) Q)
        -∗ wpp c (.op w k) Q) := by
  unfold acct
  iintro ⟨#HR, #HL, ⟨%W, HO⟩⟩ Hc Hp Hk
  ihave #HI := (records_at m K c hs) $$ HR
  icases HI with ⟨#HI, -⟩
  iapply (Rounds.wp_wait_rest_token 𝒱₀ ER (rd m) (c : Thread nD τ) none (κ := K (c, i)) hw (Set.mem_univ _) () (O := Oe c n) (W := W)
      (R := 0) (m := 0) (T := ∅) (by rw [Nat.zero_add, ha])) $$ [Hc HO Hp]
  · isplitr; · iexact HI
    isplitl [Hc]; · iexact Hc
    isplitl [HO]; · iexact HO
    isplitr; · iapply (mayWait c s n hlv); iexact HL
    iexact Hp
  iintro ⟨HO, Hp, -, Hpay⟩
  iapply Hk $$ [HO] Hp Hpay
  isplitr; · iexact HR
  isplitr; · iexact HL
  iexists _; iexact HO

theorem pay_lv_pos (j : ℕ) : 0 < lvN (semIx (paySem j)) := by
  match j with
  | 0 | 1 | 2 | 3 | 4 | 5 | 6 | 7 => decide
  | n + 8 => show 0 < lvN (semIx barL); decide

theorem lv_low {s : SemLoc sig} (h : lvN (semIx s) = 0) (n : ℕ) : ∀ j < n, lvN (semIx s) < lvN (semIx (paySem j)) :=
  fun j _ => h ▸ pay_lv_pos j

/-- The wait on the barrier cell: both partners' landing buffers. -/
theorem wp_waitBar :
    ⊢ iprop(acct m K c 8 -∗ crd c barL 2 -∗ pos0 c barL -∗
        (acct m K c 8 -∗ pos1 c barL -∗ (∃ f, r1W (p1 c) f) -∗ (∃ f, r2W (p2 c) f) -∗ wpp c (k ⟨⟩) Q) -∗ wpp c (.op (.semWait barS 2) k) Q) := by
  iintro HA Hc Hp Hk
  iapply (wp_waitAt m K c csem_b 8 2 (by decide) (expect_bar m c) (wpE_semWait_eq 𝒱₀ (c : Thread nD τ) none Set.univ)) $$ HA Hc Hp
  iintro HA Hp Hpay
  ihave H := (Entails.of_eq (rest_bar m c)) $$ Hpay
  unfold barPay1 barPay2
  icases H with ⟨H1, H2⟩
  iapply Hk $$ HA Hp H1 H2

/-- The wait on a transfer's cell. -/
theorem wp_waitX {i : Fin 33} {sm : DmaSem sig} (hs : csem i = .dma sm) (n a : ℕ) (P : sProp 𝕄)
    (h4 : 4 ≤ semIx (.dma sm : SemLoc sig)) (h36 : semIx (.dma sm : SemLoc sig) < 36) (hlv : ∀ j < n, lvN (semIx (.dma sm)) < lvN (semIx (paySem j)))
    (ha : (rd (F := F) m).expect (cellAt c (.dma sm)) 0 = a) (hP : (rd (F := F) m).payload (cellAt c (.dma sm)) 0 false = P)
    {sp sp' : Space} {s s' : Shape} {e e' : EltTy} {sM : Memref sig .tc sp' s' e'} {dM : Memref sig .tc sp s e}
    {h1 : sM.view.WordExact} {h2 : dM.view.WordExact} (hd : dM.view.dmaCredit = a) :
    ⊢ iprop(acct m K c n -∗ crd c (.dma sm) a -∗ pos0 c (.dma sm) -∗
        (acct m K c n -∗ pos1 c (.dma sm) -∗ P -∗ wpp c (k ⟨⟩) Q) -∗ wpp c (.op (.waitDma2 sm sM dM h1 h2) k) Q) := by
  subst hd; subst hP
  iintro HA Hc Hp Hk
  iapply (wp_waitAt m K c hs n _ hlv ha (wpE_waitDma2_eq 𝒱₀ (c : Thread nD τ) none Set.univ)) $$ HA Hc Hp
  iintro HA Hp Hpay
  ihave H := (Entails.of_eq (rest_xfer m c h4 h36)) $$ Hpay
  iapply Hk $$ HA Hp H

/-! The numbers' ranges. -/

theorem lo_k (h : Fin 8) : 4 ≤ semIx (kL h) := by rw [ix_k]; omega
theorem hi_k (h : Fin 8) : semIx (kL h) < 20 := by rw [ix_k]; omega
theorem lt_k (h : Fin 8) : semIx (kL h) < 36 := by rw [ix_k]; omega
theorem lv_k (h : Fin 8) : lvN (semIx (kL h)) = 0 := by rw [ix_k]; revert h; decide
theorem lo_v (h : Fin 8) : 4 ≤ semIx (vL h) := by rw [ix_v]; omega
theorem hi_v (h : Fin 8) : semIx (vL h) < 20 := by rw [ix_v]; omega
theorem lt_v (h : Fin 8) : semIx (vL h) < 36 := by rw [ix_v]; omega
theorem lv_v (h : Fin 8) : lvN (semIx (vL h)) = 0 := by rw [ix_v]; revert h; decide
theorem lo_s1 (q : Fin 4) : 4 ≤ semIx (s1L q) := by rw [ix_s1]; omega
theorem mi_s1 (q : Fin 4) : 20 ≤ semIx (s1L q) := by rw [ix_s1]; omega
theorem lt_s1 (q : Fin 4) : semIx (s1L q) < 36 := by rw [ix_s1]; omega
theorem lv_s1 (q : Fin 4) : lvN (semIx (s1L q)) = 0 := by rw [ix_s1]; revert q; decide
theorem lo_r1 (q : Fin 4) : 4 ≤ semIx (r1L q) := by rw [ix_r1]; omega
theorem mi_r1 (q : Fin 4) : 20 ≤ semIx (r1L q) := by rw [ix_r1]; omega
theorem lt_r1 (q : Fin 4) : semIx (r1L q) < 36 := by rw [ix_r1]; omega
theorem lo_s2 (q : Fin 4) : 4 ≤ semIx (s2L q) := by rw [ix_s2]; omega
theorem mi_s2 (q : Fin 4) : 20 ≤ semIx (s2L q) := by rw [ix_s2]; omega
theorem lt_s2 (q : Fin 4) : semIx (s2L q) < 36 := by rw [ix_s2]; omega
theorem lv_s2 (q : Fin 4) : lvN (semIx (s2L q)) = 0 := by rw [ix_s2]; revert q; decide
theorem lo_r2 (q : Fin 4) : 4 ≤ semIx (r2L q) := by rw [ix_r2]; omega
theorem mi_r2 (q : Fin 4) : 20 ≤ semIx (r2L q) := by rw [ix_r2]; omega
theorem lt_r2 (q : Fin 4) : semIx (r2L q) < 36 := by rw [ix_r2]; omega

/-! What a transfer pays. -/

theorem amt_k (h : Fin 8) : (hd kM h).view.amount (kL h) = NK := rfl
theorem amt_v (h : Fin 8) : (hd vM h).view.amount (vL h) = NK := rfl
theorem amt_r1 (q : Fin 4) : (slot r1M q).view.amount (r1L q) = NS := rfl
theorem amt_r2 (q : Fin 4) : (slot r2M q).view.amount (r2L q) = NS := rfl

section Waits
variable {sp sp' : Space} {s s' : Shape} {e e' : EltTy}

/-- The wait for head `h` of the keys. -/
theorem wp_waitK (h : Fin 8) (n : ℕ) {sM : Memref sig .tc sp' s' e'} {h1 : sM.view.WordExact} {h2 : (hd kM h).view.WordExact} :
    ⊢ iprop(acct m K c n -∗ crd c (kL h) NK -∗ pos0 c (kL h) -∗ (acct m K c n -∗ pos1 c (kL h) -∗ kPay m c h -∗ wpp c (k ⟨⟩) Q)
        -∗ wpp c (.op (.waitDma2 (sem8 cc0_scratch2 h) sM (hd kM h) h1 h2) k) Q) :=
  wp_waitX m K c (csem_k h) n NK (kPay m c h) (lo_k h) (lt_k h) (lv_low (lv_k h) n)
    (expect_head m c (lo_k h) (hi_k h)) (payload_k m c h) rfl
/-- The wait for head `h` of the values. -/
theorem wp_waitV (h : Fin 8) (n : ℕ) {sM : Memref sig .tc sp' s' e'} {h1 : sM.view.WordExact} {h2 : (hd vM h).view.WordExact} :
    ⊢ iprop(acct m K c n -∗ crd c (vL h) NK -∗ pos0 c (vL h) -∗ (acct m K c n -∗ pos1 c (vL h) -∗ vPay m c h -∗ wpp c (k ⟨⟩) Q)
        -∗ wpp c (.op (.waitDma2 (sem8 cc0_scratch3 h) sM (hd vM h) h1 h2) k) Q) :=
  wp_waitX m K c (csem_v h) n NK (vPay m c h) (lo_v h) (lt_v h) (lv_low (lv_v h) n)
    (expect_head m c (lo_v h) (hi_v h)) (payload_v m c h) rfl
/-- The wait for slot `q` to have left in the first exchange. -/
theorem wp_waitS1 (q : Fin 4) (n : ℕ) {sM : Memref sig .tc sp' s' e'} {h1 : sM.view.WordExact} {h2 : (slot s1M q).view.WordExact} :
    ⊢ iprop(acct m K c n -∗ crd c (s1L q) NS -∗ pos0 c (s1L q) -∗ (acct m K c n -∗ pos1 c (s1L q) -∗ s1P c q shL (s1C m c) -∗ wpp c (k ⟨⟩) Q)
        -∗ wpp c (.op (.waitDma2 (sem4 cc0_scratch8 q) sM (slot s1M q) h1 h2) k) Q) :=
  wp_waitX m K c (csem_s1 q) n NS (s1Pay m c q) (lo_s1 q) (lt_s1 q) (lv_low (lv_s1 q) n)
    (expect_slot m c (mi_s1 q) (lt_s1 q)) (payload_s1 m c q) rfl
/-- The wait for slot `q` to have left in the second exchange. -/
theorem wp_waitS2 (q : Fin 4) (n : ℕ) {sM : Memref sig .tc sp' s' e'} {h1 : sM.view.WordExact} {h2 : (slot s2M q).view.WordExact} :
    ⊢ iprop(acct m K c n -∗ crd c (s2L q) NS -∗ pos0 c (s2L q) -∗ (acct m K c n -∗ pos1 c (s2L q) -∗ s2P c q (s2C m c) -∗ wpp c (k ⟨⟩) Q)
        -∗ wpp c (.op (.waitDma2 (sem4 cc0_scratch10 q) sM (slot s2M q) h1 h2) k) Q) :=
  wp_waitX m K c (csem_s2 q) n NS (s2Pay m c q) (lo_s2 q) (lt_s2 q) (lv_low (lv_s2 q) n)
    (expect_slot m c (mi_s2 q) (lt_s2 q)) (payload_s2 m c q) rfl
/-- The wait for the first partner's slot `q`. -/
theorem wp_waitR1 (q : Fin 4) (n : ℕ) (hlv : ∀ j < n, lvN (semIx (r1L q)) < lvN (semIx (paySem j)))
    {sM : Memref sig .tc sp' s' e'} {h1 : sM.view.WordExact} {h2 : (slot r1M q).view.WordExact} :
    ⊢ iprop(acct m K c n -∗ crd c (r1L q) NS -∗ pos0 c (r1L q) -∗ (acct m K c n -∗ pos1 c (r1L q) -∗ r1P c q (s1C m (p1 c)) -∗ wpp c (k ⟨⟩) Q)
        -∗ wpp c (.op (.waitDma2 (sem4 cc0_scratch9 q) sM (slot r1M q) h1 h2) k) Q) :=
  wp_waitX m K c (csem_r1 q) n NS (r1Pay m c q) (lo_r1 q) (lt_r1 q) hlv
    (expect_slot m c (mi_r1 q) (lt_r1 q)) (payload_r1 m c q) rfl
/-- The wait for the second partner's slot `q`, when nothing is owed. -/
theorem wp_waitR2 (q : Fin 4) {sM : Memref sig .tc sp' s' e'} {h1 : sM.view.WordExact} {h2 : (slot r2M q).view.WordExact} :
    ⊢ iprop(acct m K c 0 -∗ crd c (r2L q) NS -∗ pos0 c (r2L q) -∗ (acct m K c 0 -∗ pos1 c (r2L q) -∗ r2P c q (s2C m (p2 c)) -∗ wpp c (k ⟨⟩) Q)
        -∗ wpp c (.op (.waitDma2 (sem4 cc0_scratch11 q) sM (slot r2M q) h1 h2) k) Q) :=
  wp_waitX m K c (csem_r2 q) 0 NS (r2Pay m c q) (lo_r2 q) (lt_r2 q) (fun j hj => absurd hj (Nat.not_lt_zero j))
    (expect_slot m c (mi_r2 q) (lt_r2 q)) (payload_r2 m c q) rfl

end Waits

/-! ## Signals -/

/-- The signal to the first partner's barrier hands over the device's first landing buffer. -/
theorem wp_signal1 {n : Dev nD} (hn : n = p1 c) :
    ⊢ iprop(acct m K c 10 -∗ tok (p1 c) barL false -∗ (∃ f, r1W c f) -∗ (acct m K c 9 -∗ wpp c (k ⟨⟩) Q)
        -∗ wpp c (.op (.semSignal (Dev.tc n : Thread nD τ) barS 1) k) Q) := by
  subst hn
  unfold acct
  iintro ⟨#HR, #HL, ⟨%W, HO⟩⟩ Ht Hb Hk
  ihave #HI := (records_at m K (p1 c) csem_b) $$ HR
  icases HI with ⟨#HI, #Hr⟩
  iapply (Rounds.wp_signal 𝒱₀ ER (rd m) (c : Thread nD τ) none (dst := (p1 c : Thread nD τ)) (κ := K (p1 c, bI))
      (d := false) (by rw [duties_bar]; exact Finset.mem_univ _) (amount_bar m (p1 c) false) () (Oe c 9) rfl) $$ [HO Ht Hb]
  · isplitr; · iexact HI
    isplitl [HO]; · iexact HO
    isplitl [Ht]; · iexact Ht
    isplitl [Hb]
    · rw [payload_bar_false]; unfold barPay1; rw [p1_p1]; iexact Hb
    iexact Hr
  iintro HO
  iapply Hk
  isplitr; · iexact HR
  isplitr; · iexact HL
  iexists _; iexact HO

/-- The signal to the second partner's barrier hands over the device's second landing buffer. -/
theorem wp_signal2 {n : Dev nD} (hn : n = p2 c) :
    ⊢ iprop(acct m K c 9 -∗ tok (p2 c) barL true -∗ (∃ f, r2W c f) -∗ (acct m K c 8 -∗ wpp c (k ⟨⟩) Q)
        -∗ wpp c (.op (.semSignal (Dev.tc n : Thread nD τ) barS 1) k) Q) := by
  subst hn
  unfold acct
  iintro ⟨#HR, #HL, ⟨%W, HO⟩⟩ Ht Hb Hk
  ihave #HI := (records_at m K (p2 c) csem_b) $$ HR
  icases HI with ⟨#HI, #Hr⟩
  iapply (Rounds.wp_signal 𝒱₀ ER (rd m) (c : Thread nD τ) none (dst := (p2 c : Thread nD τ)) (κ := K (p2 c, bI))
      (d := true) (by rw [duties_bar]; exact Finset.mem_univ _) (amount_bar m (p2 c) true) () (Oe c 8) rfl) $$ [HO Ht Hb]
  · isplitr; · iexact HI
    isplitl [HO]; · iexact HO
    isplitl [Ht]; · iexact Ht
    isplitl [Hb]
    · rw [payload_bar_true]; unfold barPay2; rw [p2_p2]; iexact Hb
    iexact Hr
  iintro HO
  iapply Hk
  isplitr; · iexact HR
  isplitr; · iexact HL
  iexists _; iexact HO

/-! ## Transfers -/

/-- The copy of head `h` of the keys. -/
theorem wp_copyK (h : Fin 8) (n : ℕ) (fd : S8x4096x128.Idx → Elt F .f32) {h1 : (src keyM c h).view.WordExact} {h2 : (hd kM h).view.WordExact}
    {h3 : DmaTarget.Typed (nD := nD) (τ := τ) (p := .tc) .hbm (kL h) (.here (hd kM h))} :
    ⊢ iprop(acct m K c n -∗ tok c (kL h) false -∗ keyP c h (keyC m c) -∗ kP c h fd -∗ (acct m K c n -∗ crd c (kL h) NK -∗ wpp c (k ⟨⟩) Q)
        -∗ wpp c (.op (.enqueueDma (src keyM c h) (.here (hd kM h)) (kL h) h1 h2 h3) k) Q) := by
  unfold acct
  iintro ⟨#HR, #HL, HO⟩ Ht Hs Hd Hk
  ihave #HI := (records_at m K c (csem_k h)) $$ HR
  icases HI with ⟨#HI, #Hr⟩
  unfold keyP kP
  iapply (Rounds.wp_copy_pointsTo 𝒱₀ ER (rd m) (c : Thread nD τ) none (κ := K (c, kI h)) (src := src keyM c h) (dst := hd kM h) (sem := kL h)
      (q := fullShare) (fs := keyC m c) (r := 0) (d := false) (fd := fd)
      (by rw [duties_xfer m c (lo_k h) (lt_k h)]; exact Finset.mem_singleton_self _) () NK (amt_k h) (amount_head m c (hi_k h) false)
      (by rw [payload_k]; unfold kPay kP keyP; exact sep_mono_left (Entails.of_eq (pointsTo_congr (land_k (keyC m c) c h fd))))) $$ [Ht Hs Hd]
  · isplitr; · iexact HI
    isplitl [Hs]; · iexact Hs
    isplitl [Hd]; · iexact Hd
    isplitl [Ht]; · iexact Ht
    iexact Hr
  iintro Hc
  iapply Hk $$ [HO] Hc
  isplitr; · iexact HR
  isplitr; · iexact HL
  iexact HO

/-- The copy of head `h` of the values. -/
theorem wp_copyV (h : Fin 8) (n : ℕ) (fd : S8x4096x128.Idx → Elt F .f32) {h1 : (src valM c h).view.WordExact} {h2 : (hd vM h).view.WordExact}
    {h3 : DmaTarget.Typed (nD := nD) (τ := τ) (p := .tc) .hbm (vL h) (.here (hd vM h))} :
    ⊢ iprop(acct m K c n -∗ tok c (vL h) false -∗ valP c h (valC m c) -∗ vP c h fd -∗ (acct m K c n -∗ crd c (vL h) NK -∗ wpp c (k ⟨⟩) Q)
        -∗ wpp c (.op (.enqueueDma (src valM c h) (.here (hd vM h)) (vL h) h1 h2 h3) k) Q) := by
  unfold acct
  iintro ⟨#HR, #HL, HO⟩ Ht Hs Hd Hk
  ihave #HI := (records_at m K c (csem_v h)) $$ HR
  icases HI with ⟨#HI, #Hr⟩
  unfold valP vP
  iapply (Rounds.wp_copy_pointsTo 𝒱₀ ER (rd m) (c : Thread nD τ) none (κ := K (c, vI h)) (src := src valM c h) (dst := hd vM h) (sem := vL h)
      (q := fullShare) (fs := valC m c) (r := 0) (d := false) (fd := fd)
      (by rw [duties_xfer m c (lo_v h) (lt_v h)]; exact Finset.mem_singleton_self _) () NK (amt_v h) (amount_head m c (hi_v h) false)
      (by rw [payload_v]; unfold vPay vP valP; exact sep_mono_left (Entails.of_eq (pointsTo_congr (land_v (valC m c) c h fd))))) $$ [Ht Hs Hd]
  · isplitr; · iexact HI
    isplitl [Hs]; · iexact Hs
    isplitl [Hd]; · iexact Hd
    isplitl [Ht]; · iexact Ht
    iexact Hr
  iintro Hc
  iapply Hk $$ [HO] Hc
  isplitr; · iexact HR
  isplitr; · iexact HL
  iexact HO

/-- The transfer of slot `q` to the first partner, with `n` payments left after it. -/
theorem wp_send1 (q : Fin 4) (n : ℕ) (hO : Oe c (n + 1) = Oe c n + tallyAt (cellAt (p1 c) (r1L q)) () NS) {d : Dev nD} (hd : d = p1 c)
    {h0 : (slot r1M q : Memref sig (Dev.tc d : Thread nD τ).2.kind .vmem S64x1024 .f32).view.ref.isScScratch = false}
    {h1 : (slot s1M q).view.WordExact} {h2 : (slot r1M q).view.WordExact}
    {h3 : DmaTarget.Typed .vmem (r1L q) (.remote (Dev.tc d : Thread nD τ) (slot r1M q) (s1L q) h0)} :
    ⊢ iprop(acct m K c (n + 1) -∗ tok c (s1L q) false -∗ tok (p1 c) (r1L q) false -∗ s1P c q shL (s1C m c) -∗ (∃ f, r1P (p1 c) q f)
        -∗ (acct m K c n -∗ crd c (s1L q) NS -∗ wpp c (k ⟨⟩) Q)
        -∗ wpp c (.op (.enqueueDma (slot s1M q) (.remote (Dev.tc d : Thread nD τ) (slot r1M q) (s1L q) h0) (r1L q) h1 h2 h3) k) Q) := by
  subst hd
  unfold acct
  iintro ⟨#HR, #HL, ⟨%W, HO⟩⟩ Ht Ht' Hs ⟨%fd, Hd⟩ Hk
  ihave #HI := (records_at m K c (csem_s1 q)) $$ HR
  ihave #HI' := (records_at m K (p1 c) (csem_r1 q)) $$ HR
  icases HI with ⟨#HI, #Hr⟩
  icases HI' with ⟨#HI', #Hr'⟩
  unfold s1P r1P
  iapply (Rounds.wp_send_pointsTo 𝒱₀ ER (rd m) (c : Thread nD τ) none (κ₁ := K (c, s1I q)) (κ₂ := K (p1 c, r1I q))
      (src := slot s1M q) (c' := (p1 c : Thread nD τ)) (dst := slot r1M q) (sS := s1L q) (sem := r1L q) (q := shL) (fs := s1C m c)
      (r₁ := 0) (r₂ := 0) (d₁ := false) (d₂ := false) (fd := fd)
      (by rw [duties_xfer m c (lo_s1 q) (lt_s1 q)]; exact Finset.mem_singleton_self _)
      (by rw [duties_xfer m (p1 c) (lo_r1 q) (lt_r1 q)]; exact Finset.mem_singleton_self _)
      () () NS (amt_r1 q) (amount_slot m c (mi_s1 q) (lt_s1 q) false) (amount_slot m (p1 c) (mi_r1 q) (lt_r1 q) false) (Oe c n) hO (W := W)
      (by rw [payload_s1]; unfold s1Pay s1P; exact BI.Entails.refl _)
      (by rw [payload_r1]; unfold r1Pay r1P; rw [p1_p1]; exact Entails.of_eq (pointsTo_congr (land_slot (s1C m c) fd q)))) $$ [Ht Ht' Hs Hd HO]
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk $$ [HO] Hc
  isplitr; · iexact HR
  isplitr; · iexact HL
  iexists _; iexact HO

/-- The transfer of slot `q` to the second partner, with `n` payments left after it. -/
theorem wp_send2 (q : Fin 4) (n : ℕ) (hO : Oe c (n + 1) = Oe c n + tallyAt (cellAt (p2 c) (r2L q)) () NS) {d : Dev nD} (hd : d = p2 c)
    {h0 : (slot r2M q : Memref sig (Dev.tc d : Thread nD τ).2.kind .vmem S64x1024 .f32).view.ref.isScScratch = false}
    {h1 : (slot s2M q).view.WordExact} {h2 : (slot r2M q).view.WordExact}
    {h3 : DmaTarget.Typed .vmem (r2L q) (.remote (Dev.tc d : Thread nD τ) (slot r2M q) (s2L q) h0)} :
    ⊢ iprop(acct m K c (n + 1) -∗ tok c (s2L q) false -∗ tok (p2 c) (r2L q) false -∗ s2P c q (s2C m c) -∗ (∃ f, r2P (p2 c) q f)
        -∗ (acct m K c n -∗ crd c (s2L q) NS -∗ wpp c (k ⟨⟩) Q)
        -∗ wpp c (.op (.enqueueDma (slot s2M q) (.remote (Dev.tc d : Thread nD τ) (slot r2M q) (s2L q) h0) (r2L q) h1 h2 h3) k) Q) := by
  subst hd
  unfold acct
  iintro ⟨#HR, #HL, ⟨%W, HO⟩⟩ Ht Ht' Hs ⟨%fd, Hd⟩ Hk
  ihave #HI := (records_at m K c (csem_s2 q)) $$ HR
  ihave #HI' := (records_at m K (p2 c) (csem_r2 q)) $$ HR
  icases HI with ⟨#HI, #Hr⟩
  icases HI' with ⟨#HI', #Hr'⟩
  unfold s2P r2P
  iapply (Rounds.wp_send_pointsTo 𝒱₀ ER (rd m) (c : Thread nD τ) none (κ₁ := K (c, s2I q)) (κ₂ := K (p2 c, r2I q))
      (src := slot s2M q) (c' := (p2 c : Thread nD τ)) (dst := slot r2M q) (sS := s2L q) (sem := r2L q) (q := fullShare) (fs := s2C m c)
      (r₁ := 0) (r₂ := 0) (d₁ := false) (d₂ := false) (fd := fd)
      (by rw [duties_xfer m c (lo_s2 q) (lt_s2 q)]; exact Finset.mem_singleton_self _)
      (by rw [duties_xfer m (p2 c) (lo_r2 q) (lt_r2 q)]; exact Finset.mem_singleton_self _)
      () () NS (amt_r2 q) (amount_slot m c (mi_s2 q) (lt_s2 q) false) (amount_slot m (p2 c) (mi_r2 q) (lt_r2 q) false) (Oe c n) hO (W := W)
      (by rw [payload_s2]; unfold s2Pay s2P; exact BI.Entails.refl _)
      (by rw [payload_r2]; unfold r2Pay r2P; rw [p2_p2]; exact Entails.of_eq (pointsTo_congr (land_slot (s2C m c) fd q)))) $$ [Ht Ht' Hs Hd HO]
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk $$ [HO] Hc
  isplitr; · iexact HR
  isplitr; · iexact HL
  iexists _; iexact HO

end Ops

end Cert.AttnProof

end
-- ==== Proof.Attn.Ops2.lean ====
/-
  The rules for the kernel's loads and stores: what each reads off, or leaves in, the slots as this proof owns them.
-/
module

public import proofs.«01_k».proof.Proof.Attn.Ops

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## What the body holds -/

/-- The staged blocks the body only reads. -/
def roW (c : Dev nD) : sProp 𝕄 :=
  iprop((((c : Thread nD τ).loc cc0_stg0_0) ↦{fullShare} xC m c) ∗ (((c : Thread nD τ).loc cc0_stg1_0) ↦{fullShare} wqC m c)
    ∗ (((c : Thread nD τ).loc cc0_stg2_0) ↦{fullShare} woC m c))

/-- The result's staging block with its row blocks below `q` holding the sums over all devices. -/
def outP (c : Dev nD) (q : ℕ) : sProp 𝕄 :=
  iprop(∃ f : S1x256x1024.Idx → Elt F .f32,
    ⌜∀ (a : Fin 256) (b : Fin 1024), a.val < 64 * q → f (ix3 (0 : Fin 1) a b) = outC m c (ix3 (0 : Fin 1) a b)⌝
      ∗ (((c : Thread nD τ).loc cc0_stg3_0) ↦{fullShare} f))

theorem acc_set (b : Memref sig .tc .vmem S4x64x1024 .f32) (q : Fin 4) :
    (b.access (slR q)).setOn Finset.univ ⊆ (slot b q).view.set := by
  rw [slot_set, View.setOn_univ]; exact (View.set_slice _ _).subset
theorem sl_sub (b : Memref sig .tc .vmem S4x64x1024 .f32) (q : Fin 4) :
    b.view.setOn (slR q).toLoadRect.set ⊆ (slot b q).view.set := by
  rw [slot_set]
theorem hd_sub (b : Memref sig .tc .vmem S8x4096x128 .f32) (h : Fin 8) :
    b.view.setOn (hdR h).toLoadRect.set ⊆ (hd b h).view.set := by
  rw [hd_set]

/-- A stored slot holds what the exchange's contents name there. -/
theorem stored1 (c : Dev nD) (q : Fin 4) (f : S4x64x1024.Idx → Elt F .f32) :
    ((s1M.access (slR q)).loc (c : Thread nD τ) ↦[(slot s1M q).view.set]{fullShare} ((s1M.access (slR q)).write (Elt F) f (accC m c q) Finset.univ) : sProp 𝕄)
      ⊢ s1P c q fullShare (s1C m c) :=
  Entails.of_eq (pointsTo_congr (store_slot (accC m c) f q))
theorem store_slot2 (g : Fin 4 → FVec F S1x64x1024 .f32) (fd : S4x64x1024.Idx → Elt F .f32) (q : Fin 4) :
    ∀ i ∈ (slot s2M q).view.set, ((s2M.access (slR q) : View sig .tc _ _ _).write (Elt F) fd (g q) Finset.univ) i = slots g i := by
  intro i hi
  rw [slot_set] at hi
  obtain ⟨j, hj, rfl⟩ := Finset.mem_map.mp hi
  have hq := (mem_slR q j).mp hj
  obtain ⟨q', a, b, rfl⟩ := ex_slots j
  have hq' : q' = q := hq
  subst hq'
  have e : (s2M.access (slR q') : View sig .tc _ _ _).emb (ix3 (0 : Fin 1) a b) = s2M.view.emb (ix3 q' a b) := slR_emb q' 0 a b
  exact (congrArg _ e.symm).trans (View.write_emb_of_mem (v := (s2M.access (slR q') : View sig .tc _ _ _)) _ _ (Finset.mem_univ _))
theorem stored2 (c : Dev nD) (q : Fin 4) (f : S4x64x1024.Idx → Elt F .f32) :
    ((s2M.access (slR q)).loc (c : Thread nD τ) ↦[(slot s2M q).view.set]{fullShare} ((s2M.access (slR q)).write (Elt F) f (midC m c q) Finset.univ) : sProp 𝕄)
      ⊢ s2P c q (s2C m c) :=
  Entails.of_eq (pointsTo_congr (store_slot2 (midC m c) f q))
/-- A slot's two halves. -/
theorem halves (c : Dev nD) (q : Fin 4) (f : S4x64x1024.Idx → Elt F .f32) :
    (s1P c q fullShare f : sProp 𝕄) ⊣⊢ iprop(s1P c q shL f ∗ s1P c q shR f) :=
  pointsTo_share (PosShare.mem_left_op_right fullShare)

section Loads
variable (c : Dev nD) {α : Type} {Q : α → sProp (MT nD τ sig Unit (Elt F) ℕ UU ℕ)}

/-- A load of slot `q` of the first send buffer, at any share. -/
theorem wp_loadS1 (q : Fin 4) {sh : PosShare TreeShare} {f : S4x64x1024.Idx → Elt F .f32} {hl : s1M.view.LoadsAt (slR q).toLoadRect}
    {k : Vec F S1x64x1024 .f32 → Prog (TpuEff nD τ sig (Elt F) Λ₀ .tc) α} :
    ⊢ iprop(s1P c q sh f -∗ (s1P c q sh f -∗ wpp c (k (rdSlot f q)) Q) -∗ wpp c (.op (.load s1M (slR q).toLoadRect hl) k) Q) := by
  unfold s1P
  iintro H
  iapply (wp_load 𝒱₀ (c : Thread nD τ) none Set.univ (m := s1M) (sl_sub s1M q)) $$ H
theorem wp_loadR1 (q : Fin 4) {f : S4x64x1024.Idx → Elt F .f32} {hl : r1M.view.LoadsAt (slR q).toLoadRect}
    {k : Vec F S1x64x1024 .f32 → Prog (TpuEff nD τ sig (Elt F) Λ₀ .tc) α} :
    ⊢ iprop(r1P c q f -∗ (r1P c q f -∗ wpp c (k (rdSlot f q)) Q) -∗ wpp c (.op (.load r1M (slR q).toLoadRect hl) k) Q) := by
  unfold r1P
  iintro H
  iapply (wp_load 𝒱₀ (c : Thread nD τ) none Set.univ (m := r1M) (sl_sub r1M q)) $$ H
theorem wp_loadS2 (q : Fin 4) {f : S4x64x1024.Idx → Elt F .f32} {hl : s2M.view.LoadsAt (slR q).toLoadRect}
    {k : Vec F S1x64x1024 .f32 → Prog (TpuEff nD τ sig (Elt F) Λ₀ .tc) α} :
    ⊢ iprop(s2P c q f -∗ (s2P c q f -∗ wpp c (k (rdSlot f q)) Q) -∗ wpp c (.op (.load s2M (slR q).toLoadRect hl) k) Q) := by
  unfold s2P
  iintro H
  iapply (wp_load 𝒱₀ (c : Thread nD τ) none Set.univ (m := s2M) (sl_sub s2M q)) $$ H
theorem wp_loadR2 (q : Fin 4) {f : S4x64x1024.Idx → Elt F .f32} {hl : r2M.view.LoadsAt (slR q).toLoadRect}
    {k : Vec F S1x64x1024 .f32 → Prog (TpuEff nD τ sig (Elt F) Λ₀ .tc) α} :
    ⊢ iprop(r2P c q f -∗ (r2P c q f -∗ wpp c (k (rdSlot f q)) Q) -∗ wpp c (.op (.load r2M (slR q).toLoadRect hl) k) Q) := by
  unfold r2P
  iintro H
  iapply (wp_load 𝒱₀ (c : Thread nD τ) none Set.univ (m := r2M) (sl_sub r2M q)) $$ H

/-- A load of a slot whose contents are not known, and are not used. -/
theorem wp_deadS1 (q : Fin 4) {hl : s1M.view.LoadsAt (slR q).toLoadRect}
    {k : Vec F S1x64x1024 .f32 → Prog (TpuEff nD τ sig (Elt F) Λ₀ .tc) α} :
    ⊢ iprop((∃ f, s1P c q fullShare f) -∗ (∀ v, (∃ f, s1P c q fullShare f) -∗ wpp c (k v) Q)
        -∗ wpp c (.op (.load s1M (slR q).toLoadRect hl) k) Q) := by
  iintro ⟨%f, H⟩ Hk
  iapply (wp_loadS1 c q) $$ H
  iintro H
  iapply Hk
  iexists f; iexact H
theorem wp_deadS2 (q : Fin 4) {hl : s2M.view.LoadsAt (slR q).toLoadRect}
    {k : Vec F S1x64x1024 .f32 → Prog (TpuEff nD τ sig (Elt F) Λ₀ .tc) α} :
    ⊢ iprop((∃ f, s2P c q f) -∗ (∀ v, (∃ f, s2P c q f) -∗ wpp c (k v) Q)
        -∗ wpp c (.op (.load s2M (slR q).toLoadRect hl) k) Q) := by
  iintro ⟨%f, H⟩ Hk
  iapply (wp_loadS2 c q) $$ H
  iintro H
  iapply Hk
  iexists f; iexact H

/-- The loads of the staged blocks. -/
theorem wp_loadWo (h : Fin 8) {hl : woM.view.LoadsAt (woR h).toLoadRect}
    {k : Vec F S128x1024 .f32 → Prog (TpuEff nD τ sig (Elt F) Λ₀ .tc) α} :
    ⊢ iprop(roW m c -∗ (roW m c -∗ wpp c (k (rdWo (woC m c) h)) Q) -∗ wpp c (.op (.load woM (woR h).toLoadRect hl) k) Q) := by
  unfold roW
  iintro ⟨H1, H2, H3⟩ Hk
  iapply (wp_load 𝒱₀ (c : Thread nD τ) none Set.univ (m := woM) (Finset.subset_univ _)) $$ H3
  iintro H3
  iapply Hk
  isplitl [H1]; · iexact H1
  isplitl [H2]; · iexact H2
  iexact H3

/-- The loads of an arrived head. -/
theorem wp_loadKp (h : Fin 8) {hl : kM.view.LoadsAt (hdR h).toLoadRect}
    {k : Vec F S1x4096x128 .f32 → Prog (TpuEff nD τ sig (Elt F) Λ₀ .tc) α} :
    ⊢ iprop(kPay m c h -∗ (kPay m c h -∗ wpp c (k (rdHd (kC m c) h)) Q) -∗ wpp c (.op (.load kM (hdR h).toLoadRect hl) k) Q) := by
  unfold kPay kP
  iintro ⟨H, H'⟩ Hk
  iapply (wp_load 𝒱₀ (c : Thread nD τ) none Set.univ (m := kM) (hd_sub kM h)) $$ H
  iintro H
  iapply Hk
  isplitl [H]; · iexact H
  iexact H'
theorem wp_loadVp (h : Fin 8) {hl : vM.view.LoadsAt (hdR h).toLoadRect}
    {k : Vec F S1x4096x128 .f32 → Prog (TpuEff nD τ sig (Elt F) Λ₀ .tc) α} :
    ⊢ iprop(vPay m c h -∗ (vPay m c h -∗ wpp c (k (rdHd (vC m c) h)) Q) -∗ wpp c (.op (.load vM (hdR h).toLoadRect hl) k) Q) := by
  unfold vPay vP
  iintro ⟨H, H'⟩ Hk
  iapply (wp_load 𝒱₀ (c : Thread nD τ) none Set.univ (m := vM) (hd_sub vM h)) $$ H
  iintro H
  iapply Hk
  isplitl [H]; · iexact H
  iexact H'

/-- The loads of a whole staged block. -/
theorem wp_loadX {r : LoadRect S1x256x1024} {hl : xM.view.LoadsAt r} {k : (r.shape.Idx → Elt F .f32) → Prog (TpuEff nD τ sig (Elt F) Λ₀ .tc) α}
    {v : r.shape.Idx → Elt F .f32} (hv : xM.view.readAt (Elt F) r (xC m c) = v) :
    ⊢ iprop(roW m c -∗ (roW m c -∗ wpp c (k v) Q) -∗ wpp c (.op (.load xM r hl) k) Q) := by
  subst hv
  unfold roW
  iintro ⟨H1, H2⟩ Hk
  iapply (wp_load 𝒱₀ (c : Thread nD τ) none Set.univ (m := xM) (Finset.subset_univ _)) $$ H1
  iintro H1
  iapply Hk
  isplitl [H1]; · iexact H1
  iexact H2
theorem wp_loadWq {r : LoadRect S1024x1024} {hl : wqM.view.LoadsAt r} {k : (r.shape.Idx → Elt F .f32) → Prog (TpuEff nD τ sig (Elt F) Λ₀ .tc) α}
    {v : r.shape.Idx → Elt F .f32} (hv : wqM.view.readAt (Elt F) r (wqC m c) = v) :
    ⊢ iprop(roW m c -∗ (roW m c -∗ wpp c (k v) Q) -∗ wpp c (.op (.load wqM r hl) k) Q) := by
  subst hv
  unfold roW
  iintro ⟨H1, H2, H3⟩ Hk
  iapply (wp_load 𝒱₀ (c : Thread nD τ) none Set.univ (m := wqM) (Finset.subset_univ _)) $$ H2
  iintro H2
  iapply Hk
  isplitl [H1]; · iexact H1
  isplitl [H2]; · iexact H2
  iexact H3

/-- A load of the result's block, not used. -/
theorem wp_deadOut (n : ℕ) {r : LoadRect S1x256x1024} {hl : outM.view.LoadsAt r} {k : (r.shape.Idx → Elt F .f32) → Prog (TpuEff nD τ sig (Elt F) Λ₀ .tc) α} :
    ⊢ iprop(outP m c n -∗ (∀ v, outP m c n -∗ wpp c (k v) Q) -∗ wpp c (.op (.load outM r hl) k) Q) := by
  unfold outP
  iintro ⟨%f, %hf, H⟩ Hk
  iapply (wp_load 𝒱₀ (c : Thread nD τ) none Set.univ (m := outM) (Finset.subset_univ _)) $$ H
  iintro H
  iapply Hk
  iexists f
  isplitr; · ipureintro; exact hf
  iexact H

/-! ## Stores -/

/-- The store of a partial result: half of the slot to lend, half to keep. -/
theorem wp_storeS1 (q : Fin 4) {w : Vec F S1x64x1024 .f32} (hw : w = accC m c q) {hx : (s1M.access (slR q)).Stores Finset.univ}
    {hm : (Finset.univ : Finset (slR q).shape.Idx) = Finset.univ ∨ ∀ a, (slR q).stride a = 1}
    {k : PUnit.{1} → Prog (TpuEff nD τ sig (Elt F) Λ₀ .tc) α} :
    ⊢ iprop((∃ f, s1P c q fullShare f) -∗ (s1P c q shL (s1C m c) -∗ s1P c q shR (s1C m c) -∗ wpp c (k ⟨⟩) Q)
        -∗ wpp c (.op (.store s1M (slR q) w Finset.univ hx hm) k) Q) := by
  subst hw
  iintro ⟨%f, H⟩ Hk
  iapply (wp_store 𝒱₀ (c : Thread nD τ) none Set.univ (m := s1M) (r := slR q) (w := accC m c q) (Mk := Finset.univ)
    (S := (slot s1M q).view.set) (f := f) (acc_set s1M q)) $$ [H]
  · unfold s1P; iexact H
  iintro H
  ihave H := (stored1 m c q f) $$ H
  ihave H := (halves c q (s1C m c)).1 $$ H
  icases H with ⟨H1, H2⟩
  iapply Hk $$ H1 H2
theorem wp_storeS2 (q : Fin 4) {w : Vec F S1x64x1024 .f32} (hw : w = midC m c q) {hx : (s2M.access (slR q)).Stores Finset.univ}
    {hm : (Finset.univ : Finset (slR q).shape.Idx) = Finset.univ ∨ ∀ a, (slR q).stride a = 1}
    {k : PUnit.{1} → Prog (TpuEff nD τ sig (Elt F) Λ₀ .tc) α} :
    ⊢ iprop((∃ f, s2P c q f) -∗ (s2P c q (s2C m c) -∗ wpp c (k ⟨⟩) Q)
        -∗ wpp c (.op (.store s2M (slR q) w Finset.univ hx hm) k) Q) := by
  subst hw
  iintro ⟨%f, H⟩ Hk
  iapply (wp_store 𝒱₀ (c : Thread nD τ) none Set.univ (m := s2M) (r := slR q) (w := midC m c q) (Mk := Finset.univ)
    (S := (slot s2M q).view.set) (f := f) (acc_set s2M q)) $$ [H]
  · unfold s2P; iexact H
  iintro H
  ihave H := (stored2 m c q f) $$ H
  iapply Hk $$ H
/-- The store of a row block of the result. -/
theorem wp_storeOut (q : Fin 4) {w : Vec F S1x64x1024 .f32} (hw : w = sumC m c q) {hx : (outM.access (outR q)).Stores Finset.univ}
    {hm : (Finset.univ : Finset (outR q).shape.Idx) = Finset.univ ∨ ∀ a, (outR q).stride a = 1}
    {k : PUnit.{1} → Prog (TpuEff nD τ sig (Elt F) Λ₀ .tc) α} :
    ⊢ iprop(outP m c q.val -∗ (outP m c (q.val + 1) -∗ wpp c (k ⟨⟩) Q)
        -∗ wpp c (.op (.store outM (outR q) w Finset.univ hx hm) k) Q) := by
  subst hw
  unfold outP
  iintro ⟨%f, %hf, H⟩ Hk
  iapply (wp_store 𝒱₀ (c : Thread nD τ) none Set.univ (m := outM) (r := outR q) (w := sumC m c q) (Mk := Finset.univ)
    (S := Finset.univ) (f := f) (Finset.subset_univ _)) $$ H
  iintro H
  iapply Hk
  iexists _
  isplitr; · ipureintro; exact store_out (sumC m c) f q hf
  iexact H

end Loads

end Cert.AttnProof

end
-- ==== Proof.Attn.Stages.lean ====
/-
  The stages each head, slot and landing slot goes through on a device, and the kernel's operations as steps between them.
-/
module

public import proofs.«01_k».proof.Proof.Attn.Ops2

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

section Stages
variable (c : Dev nD)

/-! ## Stages -/

/-- A head before its copy, while it travels, and once it has arrived. -/
def kIn (h : Fin 8) : sProp 𝕄 := iprop(tok c (kL h) false ∗ keyP c h (keyC m c) ∗ (∃ f, kP c h f) ∗ pos0 c (kL h))
def vIn (h : Fin 8) : sProp 𝕄 := iprop(tok c (vL h) false ∗ valP c h (valC m c) ∗ (∃ f, vP c h f) ∗ pos0 c (vL h))
def kMid (h : Fin 8) : sProp 𝕄 := iprop(crd c (kL h) NK ∗ pos0 c (kL h))
def vMid (h : Fin 8) : sProp 𝕄 := iprop(crd c (vL h) NK ∗ pos0 c (vL h))
def kDone (h : Fin 8) : sProp 𝕄 := iprop(pos1 c (kL h) ∗ kPay m c h)
def vDone (h : Fin 8) : sProp 𝕄 := iprop(pos1 c (vL h) ∗ vPay m c h)
/-- All eight heads of the keys and the values, arrived. -/
def KV : sProp 𝕄 := bigSep Finset.univ fun h : Fin 8 => iprop(kDone m c h ∗ vDone m c h)

/-- A slot of the first exchange: empty, filled, travelling (half of it kept), back. -/
def s1In (q : Fin 4) : sProp 𝕄 :=
  iprop(tok c (s1L q) false ∗ tok (p1 c) (r1L q) false ∗ (∃ f, s1P c q fullShare f) ∗ pos0 c (s1L q))
def s1Sto (q : Fin 4) : sProp 𝕄 :=
  iprop(tok c (s1L q) false ∗ tok (p1 c) (r1L q) false ∗ s1P c q shL (s1C m c) ∗ s1P c q shR (s1C m c) ∗ pos0 c (s1L q))
def s1Mid (q : Fin 4) : sProp 𝕄 := iprop(crd c (s1L q) NS ∗ s1P c q shR (s1C m c) ∗ pos0 c (s1L q))
def s1Done (q : Fin 4) : sProp 𝕄 := iprop(pos1 c (s1L q) ∗ s1P c q fullShare (s1C m c))
/-- A landing slot of the first exchange: awaited, arrived; the partner's landing slot to send to. -/
def r1In (q : Fin 4) : sProp 𝕄 := iprop(crd c (r1L q) NS ∗ pos0 c (r1L q))
def r1Done (q : Fin 4) : sProp 𝕄 := iprop(pos1 c (r1L q) ∗ r1P c q (s1C m (p1 c)))
def d1 (q : Fin 4) : sProp 𝕄 := iprop(∃ f, r1P (p1 c) q f)

/-- The same of the second exchange, whose slots travel whole. -/
def s2In (q : Fin 4) : sProp 𝕄 :=
  iprop(tok c (s2L q) false ∗ tok (p2 c) (r2L q) false ∗ (∃ f, s2P c q f) ∗ pos0 c (s2L q))
def s2Sto (q : Fin 4) : sProp 𝕄 :=
  iprop(tok c (s2L q) false ∗ tok (p2 c) (r2L q) false ∗ s2P c q (s2C m c) ∗ pos0 c (s2L q))
def s2Mid (q : Fin 4) : sProp 𝕄 := iprop(crd c (s2L q) NS ∗ pos0 c (s2L q))
def s2Done (q : Fin 4) : sProp 𝕄 := iprop(pos1 c (s2L q) ∗ s2P c q (s2C m c))
def r2In (q : Fin 4) : sProp 𝕄 := iprop(crd c (r2L q) NS ∗ pos0 c (r2L q))
def r2Done (q : Fin 4) : sProp 𝕄 := iprop(pos1 c (r2L q) ∗ r2P c q (s2C m (p2 c)))
def d2 (q : Fin 4) : sProp 𝕄 := iprop(∃ f, r2P (p2 c) q f)

/-- The barrier before and after. -/
def barIn : sProp 𝕄 :=
  iprop(tok (p1 c) barL false ∗ (∃ f, r1W c f) ∗ tok (p2 c) barL true ∗ (∃ f, r2W c f) ∗ crd c barL 2 ∗ pos0 c barL)

end Stages

section Steps
variable (K : Dev nD × Fin 33 → ℕ) (c : Dev nD) {α : Type} {Q : α → sProp (MT nD τ sig Unit (Elt F) ℕ UU ℕ)}
  {k : PUnit.{1} → Prog (TpuEff nD τ sig (Elt F) Λ₀ .tc) α}

/-! ## Heads -/

theorem st_copyK (h : Fin 8) (n : ℕ) {h1 : (src keyM c h).view.WordExact} {h2 : (hd kM h).view.WordExact}
    {h3 : DmaTarget.Typed (nD := nD) (τ := τ) (p := .tc) .hbm (kL h) (.here (hd kM h))} :
    ⊢ iprop(acct m K c n -∗ kIn m c h -∗ (acct m K c n -∗ kMid c h -∗ wpp c (k ⟨⟩) Q)
        -∗ wpp c (.op (.enqueueDma (src keyM c h) (.here (hd kM h)) (kL h) h1 h2 h3) k) Q) := by
  unfold kIn kMid
  iintro HA ⟨H1, H2, ⟨%f, H3⟩, H4⟩ Hk
  iapply (wp_copyK m K c h n f) $$ HA H1 H2 H3
  iintro HA H
  iapply Hk $$ HA
  isplitl [H]; · iexact H
  iexact H4
theorem st_waitK (h : Fin 8) (n : ℕ) {sp' : Space} {s' : Shape} {e' : EltTy} {sM : Memref sig .tc sp' s' e'} {h1 : sM.view.WordExact} {h2 : (hd kM h).view.WordExact} :
    ⊢ iprop(acct m K c n -∗ kMid c h -∗ (acct m K c n -∗ kDone m c h -∗ wpp c (k ⟨⟩) Q)
        -∗ wpp c (.op (.waitDma2 (sem8 cc0_scratch2 h) sM (hd kM h) h1 h2) k) Q) := by
  unfold kMid kDone
  iintro HA ⟨H1, H2⟩ Hk
  iapply (wp_waitK m K c h n) $$ HA H1 H2
  iintro HA H H'
  iapply Hk $$ HA
  isplitl [H]; · iexact H
  iexact H'
theorem st_loadKp (h : Fin 8) {hl : kM.view.LoadsAt (hdR h).toLoadRect} {k : Vec F S1x4096x128 .f32 → Prog (TpuEff nD τ sig (Elt F) Λ₀ .tc) α} :
    ⊢ iprop(kDone m c h -∗ (kDone m c h -∗ wpp c (k (rdHd (kC m c) h)) Q) -∗ wpp c (.op (.load kM (hdR h).toLoadRect hl) k) Q) := by
  unfold kDone
  iintro ⟨H1, H2⟩ Hk
  iapply (wp_loadKp m c h) $$ H2
  iintro H2
  iapply Hk
  isplitl [H1]; · iexact H1
  iexact H2
theorem st_copyV (h : Fin 8) (n : ℕ) {h1 : (src valM c h).view.WordExact} {h2 : (hd vM h).view.WordExact}
    {h3 : DmaTarget.Typed (nD := nD) (τ := τ) (p := .tc) .hbm (vL h) (.here (hd vM h))} :
    ⊢ iprop(acct m K c n -∗ vIn m c h -∗ (acct m K c n -∗ vMid c h -∗ wpp c (k ⟨⟩) Q)
        -∗ wpp c (.op (.enqueueDma (src valM c h) (.here (hd vM h)) (vL h) h1 h2 h3) k) Q) := by
  unfold vIn vMid
  iintro HA ⟨H1, H2, ⟨%f, H3⟩, H4⟩ Hk
  iapply (wp_copyV m K c h n f) $$ HA H1 H2 H3
  iintro HA H
  iapply Hk $$ HA
  isplitl [H]; · iexact H
  iexact H4
theorem st_waitV (h : Fin 8) (n : ℕ) {sp' : Space} {s' : Shape} {e' : EltTy} {sM : Memref sig .tc sp' s' e'} {h1 : sM.view.WordExact} {h2 : (hd vM h).view.WordExact} :
    ⊢ iprop(acct m K c n -∗ vMid c h -∗ (acct m K c n -∗ vDone m c h -∗ wpp c (k ⟨⟩) Q)
        -∗ wpp c (.op (.waitDma2 (sem8 cc0_scratch3 h) sM (hd vM h) h1 h2) k) Q) := by
  unfold vMid vDone
  iintro HA ⟨H1, H2⟩ Hk
  iapply (wp_waitV m K c h n) $$ HA H1 H2
  iintro HA H H'
  iapply Hk $$ HA
  isplitl [H]; · iexact H
  iexact H'
theorem st_loadVp (h : Fin 8) {hl : vM.view.LoadsAt (hdR h).toLoadRect} {k : Vec F S1x4096x128 .f32 → Prog (TpuEff nD τ sig (Elt F) Λ₀ .tc) α} :
    ⊢ iprop(vDone m c h -∗ (vDone m c h -∗ wpp c (k (rdHd (vC m c) h)) Q) -∗ wpp c (.op (.load vM (hdR h).toLoadRect hl) k) Q) := by
  unfold vDone
  iintro ⟨H1, H2⟩ Hk
  iapply (wp_loadVp m c h) $$ H2
  iintro H2
  iapply Hk
  isplitl [H1]; · iexact H1
  iexact H2

theorem KV_out (h : Fin 8) :
    KV m c = iprop((kDone m c h ∗ vDone m c h) ∗ bigSep (Finset.univ.erase h) fun h : Fin 8 => iprop(kDone m c h ∗ vDone m c h)) :=
  BI.bigSep_erase (Finset.mem_univ h)
theorem st_loadK (h : Fin 8) {hl : kM.view.LoadsAt (hdR h).toLoadRect} {k : Vec F S1x4096x128 .f32 → Prog (TpuEff nD τ sig (Elt F) Λ₀ .tc) α} :
    ⊢ iprop(KV m c -∗ (KV m c -∗ wpp c (k (rdHd (kC m c) h)) Q) -∗ wpp c (.op (.load kM (hdR h).toLoadRect hl) k) Q) := by
  rw [KV_out m c h]
  iintro ⟨⟨H1, H2⟩, H3⟩ Hk
  iapply (st_loadKp m c h) $$ H1
  iintro H1
  iapply Hk
  iframe
theorem st_loadV (h : Fin 8) {hl : vM.view.LoadsAt (hdR h).toLoadRect} {k : Vec F S1x4096x128 .f32 → Prog (TpuEff nD τ sig (Elt F) Λ₀ .tc) α} :
    ⊢ iprop(KV m c -∗ (KV m c -∗ wpp c (k (rdHd (vC m c) h)) Q) -∗ wpp c (.op (.load vM (hdR h).toLoadRect hl) k) Q) := by
  rw [KV_out m c h]
  iintro ⟨⟨H1, H2⟩, H3⟩ Hk
  iapply (st_loadVp m c h) $$ H2
  iintro H2
  iapply Hk
  iframe

/-! ## The first exchange -/

theorem st_dead1 (q : Fin 4) {hl : s1M.view.LoadsAt (slR q).toLoadRect} {k : Vec F S1x64x1024 .f32 → Prog (TpuEff nD τ sig (Elt F) Λ₀ .tc) α} :
    ⊢ iprop(s1In c q -∗ (∀ v, s1In c q -∗ wpp c (k v) Q) -∗ wpp c (.op (.load s1M (slR q).toLoadRect hl) k) Q) := by
  unfold s1In
  iintro ⟨H1, H2, H3, H4⟩ Hk
  iapply (wp_deadS1 c q) $$ H3
  iintro %v H3
  iapply Hk
  iframe
theorem st_store1 (q : Fin 4) {w : Vec F S1x64x1024 .f32} (hw : w = accC m c q) {hx : (s1M.access (slR q)).Stores Finset.univ}
    {hm : (Finset.univ : Finset (slR q).shape.Idx) = Finset.univ ∨ ∀ a, (slR q).stride a = 1} :
    ⊢ iprop(s1In c q -∗ (s1Sto m c q -∗ wpp c (k ⟨⟩) Q) -∗ wpp c (.op (.store s1M (slR q) w Finset.univ hx hm) k) Q) := by
  unfold s1In s1Sto
  iintro ⟨H1, H2, H3, H4⟩ Hk
  iapply (wp_storeS1 m c q hw) $$ H3
  iintro H3 H5
  iapply Hk
  iframe
theorem st_send1 (q : Fin 4) (n : ℕ) (hO : Oe c (n + 1) = Oe c n + tallyAt (cellAt (p1 c) (r1L q)) () NS) {d : Dev nD} (hd : d = p1 c)
    {h0 : (slot r1M q : Memref sig (Dev.tc d : Thread nD τ).2.kind .vmem S64x1024 .f32).view.ref.isScScratch = false}
    {h1 : (slot s1M q).view.WordExact} {h2 : (slot r1M q).view.WordExact}
    {h3 : DmaTarget.Typed .vmem (r1L q) (.remote (Dev.tc d : Thread nD τ) (slot r1M q) (s1L q) h0)} :
    ⊢ iprop(acct m K c (n + 1) -∗ s1Sto m c q -∗ d1 c q -∗ (acct m K c n -∗ s1Mid m c q -∗ wpp c (k ⟨⟩) Q)
        -∗ wpp c (.op (.enqueueDma (slot s1M q) (.remote (Dev.tc d : Thread nD τ) (slot r1M q) (s1L q) h0) (r1L q) h1 h2 h3) k) Q) := by
  unfold s1Sto s1Mid d1
  iintro HA ⟨H1, H2, H3, H4, H5⟩ Hd Hk
  iapply (wp_send1 m K c q n hO hd) $$ HA H1 H2 H3 Hd
  iintro HA H
  iapply Hk $$ HA
  iframe
theorem st_load1 (q : Fin 4) {hl : s1M.view.LoadsAt (slR q).toLoadRect} {k : Vec F S1x64x1024 .f32 → Prog (TpuEff nD τ sig (Elt F) Λ₀ .tc) α} :
    ⊢ iprop(s1Mid m c q -∗ (s1Mid m c q -∗ wpp c (k (accC m c q)) Q) -∗ wpp c (.op (.load s1M (slR q).toLoadRect hl) k) Q) := by
  unfold s1Mid
  iintro ⟨H1, H2, H3⟩ Hk
  iapply (wp_loadS1 c q) $$ H2
  rw [show rdSlot (s1C m c) q = accC m c q from rdSlot_slots _ q]
  iintro H2
  iapply Hk
  iframe
theorem st_waitR1 (q : Fin 4) (n : ℕ) (hlv : ∀ j < n, lvN (semIx (r1L q)) < lvN (semIx (paySem j)))
    {sp' : Space} {s' : Shape} {e' : EltTy} {sM : Memref sig .tc sp' s' e'} {h1 : sM.view.WordExact} {h2 : (slot r1M q).view.WordExact} :
    ⊢ iprop(acct m K c n -∗ r1In c q -∗ (acct m K c n -∗ r1Done m c q -∗ wpp c (k ⟨⟩) Q)
        -∗ wpp c (.op (.waitDma2 (sem4 cc0_scratch9 q) sM (slot r1M q) h1 h2) k) Q) := by
  unfold r1In r1Done
  iintro HA ⟨H1, H2⟩ Hk
  iapply (wp_waitR1 m K c q n hlv) $$ HA H1 H2
  iintro HA H H'
  iapply Hk $$ HA
  iframe
theorem st_loadR1 (q : Fin 4) {hl : r1M.view.LoadsAt (slR q).toLoadRect} {k : Vec F S1x64x1024 .f32 → Prog (TpuEff nD τ sig (Elt F) Λ₀ .tc) α} :
    ⊢ iprop(r1Done m c q -∗ (r1Done m c q -∗ wpp c (k (accC m (p1 c) q)) Q) -∗ wpp c (.op (.load r1M (slR q).toLoadRect hl) k) Q) := by
  unfold r1Done
  iintro ⟨H1, H2⟩ Hk
  iapply (wp_loadR1 c q) $$ H2
  rw [show rdSlot (s1C m (p1 c)) q = accC m (p1 c) q from rdSlot_slots _ q]
  iintro H2
  iapply Hk
  iframe
theorem st_waitS1 (q : Fin 4) (n : ℕ)
    {sp' : Space} {s' : Shape} {e' : EltTy} {sM : Memref sig .tc sp' s' e'} {h1 : sM.view.WordExact} {h2 : (slot s1M q).view.WordExact} :
    ⊢ iprop(acct m K c n -∗ s1Mid m c q -∗ (acct m K c n -∗ s1Done m c q -∗ wpp c (k ⟨⟩) Q)
        -∗ wpp c (.op (.waitDma2 (sem4 cc0_scratch8 q) sM (slot s1M q) h1 h2) k) Q) := by
  unfold s1Mid s1Done
  iintro HA ⟨H1, H2, H3⟩ Hk
  iapply (wp_waitS1 m K c q n) $$ HA H1 H3
  iintro HA H H'
  iapply Hk $$ HA
  isplitl [H]; · iexact H
  iapply (halves c q (s1C m c)).2
  iframe

/-! ## The second exchange -/

theorem st_dead2 (q : Fin 4) {hl : s2M.view.LoadsAt (slR q).toLoadRect} {k : Vec F S1x64x1024 .f32 → Prog (TpuEff nD τ sig (Elt F) Λ₀ .tc) α} :
    ⊢ iprop(s2In c q -∗ (∀ v, s2In c q -∗ wpp c (k v) Q) -∗ wpp c (.op (.load s2M (slR q).toLoadRect hl) k) Q) := by
  unfold s2In
  iintro ⟨H1, H2, H3, H4⟩ Hk
  iapply (wp_deadS2 c q) $$ H3
  iintro %v H3
  iapply Hk
  iframe
theorem st_store2 (q : Fin 4) {w : Vec F S1x64x1024 .f32} (hw : w = midC m c q) {hx : (s2M.access (slR q)).Stores Finset.univ}
    {hm : (Finset.univ : Finset (slR q).shape.Idx) = Finset.univ ∨ ∀ a, (slR q).stride a = 1} :
    ⊢ iprop(s2In c q -∗ (s2Sto m c q -∗ wpp c (k ⟨⟩) Q) -∗ wpp c (.op (.store s2M (slR q) w Finset.univ hx hm) k) Q) := by
  unfold s2In s2Sto
  iintro ⟨H1, H2, H3, H4⟩ Hk
  iapply (wp_storeS2 m c q hw) $$ H3
  iintro H3
  iapply Hk
  iframe
theorem st_send2 (q : Fin 4) (n : ℕ) (hO : Oe c (n + 1) = Oe c n + tallyAt (cellAt (p2 c) (r2L q)) () NS) {d : Dev nD} (hd : d = p2 c)
    {h0 : (slot r2M q : Memref sig (Dev.tc d : Thread nD τ).2.kind .vmem S64x1024 .f32).view.ref.isScScratch = false}
    {h1 : (slot s2M q).view.WordExact} {h2 : (slot r2M q).view.WordExact}
    {h3 : DmaTarget.Typed .vmem (r2L q) (.remote (Dev.tc d : Thread nD τ) (slot r2M q) (s2L q) h0)} :
    ⊢ iprop(acct m K c (n + 1) -∗ s2Sto m c q -∗ d2 c q -∗ (acct m K c n -∗ s2Mid c q -∗ wpp c (k ⟨⟩) Q)
        -∗ wpp c (.op (.enqueueDma (slot s2M q) (.remote (Dev.tc d : Thread nD τ) (slot r2M q) (s2L q) h0) (r2L q) h1 h2 h3) k) Q) := by
  unfold s2Sto s2Mid d2
  iintro HA ⟨H1, H2, H3, H5⟩ Hd Hk
  iapply (wp_send2 m K c q n hO hd) $$ HA H1 H2 H3 Hd
  iintro HA H
  iapply Hk $$ HA
  iframe
theorem st_waitS2 (q : Fin 4) (n : ℕ)
    {sp' : Space} {s' : Shape} {e' : EltTy} {sM : Memref sig .tc sp' s' e'} {h1 : sM.view.WordExact} {h2 : (slot s2M q).view.WordExact} :
    ⊢ iprop(acct m K c n -∗ s2Mid c q -∗ (acct m K c n -∗ s2Done m c q -∗ wpp c (k ⟨⟩) Q)
        -∗ wpp c (.op (.waitDma2 (sem4 cc0_scratch10 q) sM (slot s2M q) h1 h2) k) Q) := by
  unfold s2Mid s2Done
  iintro HA ⟨H1, H2⟩ Hk
  iapply (wp_waitS2 m K c q n) $$ HA H1 H2
  iintro HA H H'
  iapply Hk $$ HA
  iframe
theorem st_load2 (q : Fin 4) {hl : s2M.view.LoadsAt (slR q).toLoadRect} {k : Vec F S1x64x1024 .f32 → Prog (TpuEff nD τ sig (Elt F) Λ₀ .tc) α} :
    ⊢ iprop(s2Done m c q -∗ (s2Done m c q -∗ wpp c (k (midC m c q)) Q) -∗ wpp c (.op (.load s2M (slR q).toLoadRect hl) k) Q) := by
  unfold s2Done
  iintro ⟨H1, H2⟩ Hk
  iapply (wp_loadS2 c q) $$ H2
  rw [show rdSlot (s2C m c) q = midC m c q from rdSlot_slots _ q]
  iintro H2
  iapply Hk
  iframe
theorem st_waitR2 (q : Fin 4)
    {sp' : Space} {s' : Shape} {e' : EltTy} {sM : Memref sig .tc sp' s' e'} {h1 : sM.view.WordExact} {h2 : (slot r2M q).view.WordExact} :
    ⊢ iprop(acct m K c 0 -∗ r2In c q -∗ (acct m K c 0 -∗ r2Done m c q -∗ wpp c (k ⟨⟩) Q)
        -∗ wpp c (.op (.waitDma2 (sem4 cc0_scratch11 q) sM (slot r2M q) h1 h2) k) Q) := by
  unfold r2In r2Done
  iintro HA ⟨H1, H2⟩ Hk
  iapply (wp_waitR2 m K c q) $$ HA H1 H2
  iintro HA H H'
  iapply Hk $$ HA
  iframe
theorem st_loadR2 (q : Fin 4) {hl : r2M.view.LoadsAt (slR q).toLoadRect} {k : Vec F S1x64x1024 .f32 → Prog (TpuEff nD τ sig (Elt F) Λ₀ .tc) α} :
    ⊢ iprop(r2Done m c q -∗ (r2Done m c q -∗ wpp c (k (midC m (p2 c) q)) Q) -∗ wpp c (.op (.load r2M (slR q).toLoadRect hl) k) Q) := by
  unfold r2Done
  iintro ⟨H1, H2⟩ Hk
  iapply (wp_loadR2 c q) $$ H2
  rw [show rdSlot (s2C m (p2 c)) q = midC m (p2 c) q from rdSlot_slots _ q]
  iintro H2
  iapply Hk
  iframe

end Steps

end Cert.AttnProof

end
-- ==== Proof.Attn.PartsA.lean ====
/-
  The copies of the heads, the mask tables, and the first row block: what each stretch of the body does.
-/
module

public import proofs.«01_k».proof.Proof.Gen.KernelIdeal.Skeleton
public import proofs.«01_k».proof.Proof.Attn.Stages

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

variable (K : Dev nD × Fin 33 → ℕ) (c : Dev nD) {α : Type} {Q : α → sProp (MT nD τ sig Unit (Elt F) ℕ UU ℕ)}

/-- The two whole loads of the projection's inputs. -/
theorem read_x {hb : ∀ a, (![0, 0, 0] : Fin 3 → ℕ) a + S1x256x1024.size a ≤ S1x256x1024.size a} :
    xM.view.readAt (Elt F) (Rect.unit (s := S1x256x1024) ![0, 0, 0] S1x256x1024.size hb).toLoadRect (xC m c) = xC m c :=
  Memref.readAt_unit_zero (Elt F) _ (by decide) _ _
theorem read_wq {hb : ∀ a, (![0, 0] : Fin 2 → ℕ) a + S1024x1024.size a ≤ S1024x1024.size a} :
    wqM.view.readAt (Elt F) (Rect.unit (s := S1024x1024) ![0, 0] S1024x1024.size hb).toLoadRect (wqC m c) = wqC m c :=
  Memref.readAt_unit_zero (Elt F) _ (by decide) _ _

theorem part2 (v2 : BitVec 32) (v24 : BitVec 32)
    {k : (PUnit) → Prog (TpuEff nD τ sig (Elt F) Λ₀ .tc) α} :
    ⊢ iprop(acct m K c 8 -∗ kIn m c 1 -∗ vIn m c 1 -∗ kIn m c 2 -∗ (acct m K c 8 -∗ kMid c 1 -∗ vMid c 1 -∗ kMid c 2 -∗ wpp c (k ⟨⟩) Q)
      -∗ wpp c (k0_part2 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v2 v24 >>= k) Q) := by
  iintro HA k_1 v_1 k_2 Hk
  rw [k0_part2_eq_skeleton]
  unfold k0_part2_skel
  simp only [Prog.lift, Prog.bind_op, Prog.bind_ret, Prog.pure_eq_ret]
  iapply (st_copyK m K c 1 8) $$ HA k_1
  iintro HA k_1
  iapply (st_copyV m K c 1 8) $$ HA v_1
  iintro HA v_1
  iapply (st_copyK m K c 2 8) $$ HA k_2
  iintro HA k_2
  iapply Hk $$ HA k_1 v_1 k_2

theorem part3 (v2 : BitVec 32)
    {k : (PUnit) → Prog (TpuEff nD τ sig (Elt F) Λ₀ .tc) α} :
    ⊢ iprop(acct m K c 8 -∗ vIn m c 2 -∗ kIn m c 3 -∗ vIn m c 3 -∗ kIn m c 4 -∗ (acct m K c 8 -∗ vMid c 2 -∗ kMid c 3 -∗ vMid c 3 -∗ kMid c 4 -∗ wpp c (k ⟨⟩) Q)
      -∗ wpp c (k0_part3 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v2 >>= k) Q) := by
  iintro HA v_2 k_3 v_3 k_4 Hk
  rw [k0_part3_eq_skeleton]
  unfold k0_part3_skel
  simp only [Prog.lift, Prog.bind_op, Prog.bind_ret, Prog.pure_eq_ret]
  iapply (st_copyV m K c 2 8) $$ HA v_2
  iintro HA v_2
  iapply (st_copyK m K c 3 8) $$ HA k_3
  iintro HA k_3
  iapply (st_copyV m K c 3 8) $$ HA v_3
  iintro HA v_3
  iapply (st_copyK m K c 4 8) $$ HA k_4
  iintro HA k_4
  iapply Hk $$ HA v_2 k_3 v_3 k_4

theorem part4 (v2 : BitVec 32)
    {k : (PUnit) → Prog (TpuEff nD τ sig (Elt F) Λ₀ .tc) α} :
    ⊢ iprop(acct m K c 8 -∗ vIn m c 4 -∗ kIn m c 5 -∗ vIn m c 5 -∗ kIn m c 6 -∗ (acct m K c 8 -∗ vMid c 4 -∗ kMid c 5 -∗ vMid c 5 -∗ kMid c 6 -∗ wpp c (k ⟨⟩) Q)
      -∗ wpp c (k0_part4 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v2 >>= k) Q) := by
  iintro HA v_4 k_5 v_5 k_6 Hk
  rw [k0_part4_eq_skeleton]
  unfold k0_part4_skel
  simp only [Prog.lift, Prog.bind_op, Prog.bind_ret, Prog.pure_eq_ret]
  iapply (st_copyV m K c 4 8) $$ HA v_4
  iintro HA v_4
  iapply (st_copyK m K c 5 8) $$ HA k_5
  iintro HA k_5
  iapply (st_copyV m K c 5 8) $$ HA v_5
  iintro HA v_5
  iapply (st_copyK m K c 6 8) $$ HA k_6
  iintro HA k_6
  iapply Hk $$ HA v_4 k_5 v_5 k_6

theorem part5 (v2 : BitVec 32)
    {k : (Σ' (v122 : IVec S1x4096 32) (c64_i32 : BitVec 32) (v124 : IVec S1x4096 32) (v131 : IVec S1x4096 32) (v133 : BitVec 32), BitVec 1) → Prog (TpuEff nD τ sig (Elt F) Λ₀ .tc) α} :
    ⊢ iprop(acct m K c 8 -∗ vIn m c 6 -∗ kIn m c 7 -∗ vIn m c 7 -∗ (acct m K c 8 -∗ vMid c 6 -∗ kMid c 7 -∗ vMid c 7 -∗ wpp c (k ⟨(iota .tc S1x4096 32 [1] iota_S1x4096_d1_w32), 64#32, k0_pay1, k0_pay2, (Scalar.extui (Scalar.cmpi .sgt 64#32 0#32)), (Scalar.cmpi .slt 64#32 0#32)⟩) Q)
      -∗ wpp c (k0_part5 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v2 >>= k) Q) := by
  iintro HA v_6 k_7 v_7 Hk
  rw [k0_part5_eq_skeleton]
  unfold k0_part5_skel
  simp only [Prog.lift, Prog.bind_op, Prog.bind_ret, Prog.pure_eq_ret]
  iapply (st_copyV m K c 6 8) $$ HA v_6
  iintro HA v_6
  iapply (st_copyK m K c 7 8) $$ HA k_7
  iintro HA k_7
  iapply (st_copyV m K c 7 8) $$ HA v_7
  iintro HA v_7
  iapply Hk $$ HA v_6 k_7 v_7

theorem part6 (v122 : IVec S1x4096 32) (c64_i32 : BitVec 32) (v124 : IVec S1x4096 32) (v131 : IVec S1x4096 32) (v133 : BitVec 32) (v134 : BitVec 1)
    {k : (Σ' (v146 : IVec S1x4096 32) (v175 : FVec F S1x4096 .f32) (v177 : IVec S1x4096 1), IVec S1x4096 32) → Prog (TpuEff nD τ sig (Elt F) Λ₀ .tc) α} :
    ⊢ iprop((wpp c (k ⟨k0_pay3 v122 c64_i32 v124 v131 v133 v134, k0_pay4 (F := F) v122 c64_i32 v124 v131 v133 v134, k0_pay5 v122 c64_i32 v124 v131 v133 v134, k0_pay6⟩) Q)
      -∗ wpp c (k0_part6 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v122 c64_i32 v124 v131 v133 v134 >>= k) Q) := by
  iintro  Hk
  rw [k0_part6_eq_skeleton]
  unfold k0_part6_skel
  simp only [Prog.lift, Prog.bind_op, Prog.bind_ret, Prog.pure_eq_ret]
  iapply Hk

theorem part7 (v146 : IVec S1x4096 32) (v177 : IVec S1x4096 1) (v178 : IVec S1x4096 32)
    {k : (Σ' (v204 : FVec F S1x4096 .f32) (v209 : IVec S1x4096 1) (v213 : BitVec 32) (v215 : IVec S1x4096 32) (v217 : IVec S1x4096 1) (v219 : IVec S1x4096 1), BitVec 32) → Prog (TpuEff nD τ sig (Elt F) Λ₀ .tc) α} :
    ⊢ iprop((wpp c (k ⟨k0_pay7 (F := F) v146 v177 v178, k0_pay8 v146, (Scalar.select (Scalar.cmpi .eq 3#32 0#32) 1#32 3#32), k0_pay9 v146, k0_pay10 v146, k0_pay11 v146, 0#32⟩) Q)
      -∗ wpp c (k0_part7 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v146 v177 v178 >>= k) Q) := by
  iintro  Hk
  rw [k0_part7_eq_skeleton]
  unfold k0_part7_skel
  simp only [Prog.lift, Prog.bind_op, Prog.bind_ret, Prog.pure_eq_ret]
  iapply Hk

theorem part8 (v146 : IVec S1x4096 32) (v209 : IVec S1x4096 1) (v213 : BitVec 32) (v215 : IVec S1x4096 32) (v217 : IVec S1x4096 1) (v219 : IVec S1x4096 1) (c0_i32_167 : BitVec 32)
    {k : (Σ' (v233 : FVec F S1x4096 .f32), FVec F S1x4096 .f32) → Prog (TpuEff nD τ sig (Elt F) Λ₀ .tc) α} :
    ⊢ iprop((wpp c (k ⟨k0_pay12 (F := F) v209 v213 v215 v217 v219 c0_i32_167, k0_pay13 (F := F) v146⟩) Q)
      -∗ wpp c (k0_part8 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v146 v209 v213 v215 v217 v219 c0_i32_167 >>= k) Q) := by
  iintro  Hk
  rw [k0_part8_eq_skeleton]
  unfold k0_part8_skel
  simp only [Prog.lift, Prog.bind_op, Prog.bind_ret, Prog.pure_eq_ret]
  iapply Hk

theorem part9 (v175 : FVec F S1x4096 .f32)
    {k : (Σ' (v269 : FVec F S256x1024 .f32) (v270 : FVec F S64x1024 .f32) (v289 : FVec F S64x4096 .f32) (v291 : FVec F S64x1 .f32), Vec F S1x4096x128 .f32) → Prog (TpuEff nD τ sig (Elt F) Λ₀ .tc) α} :
    ⊢ iprop(acct m K c 8 -∗ roW m c -∗ kMid c 0 -∗ vMid c 0 -∗ (acct m K c 8 -∗ roW m c -∗ kDone m c 0 -∗ vDone m c 0 -∗ wpp c (k ⟨k0_pay14 (xC m c) (wqC m c), k0_pay15 (F := F), k0_pay16 v175 (xC m c) (wqC m c) (rdHd (kC m c) 0), k0_pay17 v175 (xC m c) (wqC m c) (rdHd (kC m c) 0), (rdHd (vC m c) 0)⟩) Q)
      -∗ wpp c (k0_part9 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v175 >>= k) Q) := by
  iintro HA HR k_0 v_0 Hk
  rw [k0_part9_eq_skeleton]
  unfold k0_part9_skel
  simp only [Prog.lift, Prog.bind_op, Prog.bind_ret, Prog.pure_eq_ret]
  iapply (wp_loadX m c (read_x m c)) $$ HR
  iintro HR
  iapply (wp_loadWq m c (read_wq m c)) $$ HR
  iintro HR
  iapply (st_waitK m K c 0 8) $$ HA k_0
  iintro HA k_0
  iapply (st_waitV m K c 0 8) $$ HA v_0
  iintro HA v_0
  iapply (st_loadKp m c 0) $$ k_0
  iintro k_0
  iapply (st_loadVp m c 0) $$ v_0
  iintro v_0
  iapply Hk $$ HA HR k_0 v_0

theorem part10 (v175 : FVec F S1x4096 .f32) (v269 : FVec F S256x1024 .f32) (v270 : FVec F S64x1024 .f32) (v289 : FVec F S64x4096 .f32) (v291 : FVec F S64x1 .f32) (v292 : Vec F S1x4096x128 .f32)
    {k : (Σ' (v300 : FVec F S64x1024 .f32) (v319 : FVec F S64x4096 .f32) (v321 : FVec F S64x1 .f32) (v323 : FVec F S4096x128 .f32), FVec F S64x128 .f32) → Prog (TpuEff nD τ sig (Elt F) Λ₀ .tc) α} :
    ⊢ iprop(acct m K c 8 -∗ roW m c -∗ kMid c 1 -∗ vMid c 1 -∗ (acct m K c 8 -∗ roW m c -∗ kDone m c 1 -∗ vDone m c 1 -∗ wpp c (k ⟨k0_pay18 v270 v289 v291 v292 (rdWo (woC m c) 0), k0_pay19 v175 v269 (rdHd (kC m c) 1), k0_pay20 v175 v269 (rdHd (kC m c) 1), k0_pay21 (rdHd (vC m c) 1), (constant S64x128 .f32 0x00000000#32)⟩) Q)
      -∗ wpp c (k0_part10 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v175 v269 v270 v289 v291 v292 >>= k) Q) := by
  iintro HA HR k_1 v_1 Hk
  rw [k0_part10_eq_skeleton]
  unfold k0_part10_skel
  simp only [Prog.lift, Prog.bind_op, Prog.bind_ret, Prog.pure_eq_ret]
  iapply (wp_loadWo m c 0) $$ HR
  iintro HR
  iapply (st_waitK m K c 1 8) $$ HA k_1
  iintro HA k_1
  iapply (st_waitV m K c 1 8) $$ HA v_1
  iintro HA v_1
  iapply (st_loadKp m c 1) $$ k_1
  iintro k_1
  iapply (st_loadVp m c 1) $$ v_1
  iintro v_1
  iapply Hk $$ HA HR k_1 v_1

theorem part11 (v175 : FVec F S1x4096 .f32) (v269 : FVec F S256x1024 .f32) (v300 : FVec F S64x1024 .f32) (v319 : FVec F S64x4096 .f32) (v321 : FVec F S64x1 .f32) (v323 : FVec F S4096x128 .f32) (cst_237 : FVec F S64x128 .f32)
    {k : (Σ' (v330 : FVec F S64x1024 .f32) (v354 : FVec F S64x128 .f32), FVec F S64x128 .f32) → Prog (TpuEff nD τ sig (Elt F) Λ₀ .tc) α} :
    ⊢ iprop(acct m K c 8 -∗ roW m c -∗ kMid c 2 -∗ vMid c 2 -∗ (acct m K c 8 -∗ roW m c -∗ kDone m c 2 -∗ vDone m c 2 -∗ wpp c (k ⟨k0_pay22 v300 v319 v321 v323 cst_237 (rdWo (woC m c) 1), k0_pay24 v175 v269 (rdHd (kC m c) 2) (rdHd (vC m c) 2), k0_pay25 v175 v269 (rdHd (kC m c) 2)⟩) Q)
      -∗ wpp c (k0_part11 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v175 v269 v300 v319 v321 v323 cst_237 >>= k) Q) := by
  iintro HA HR k_2 v_2 Hk
  rw [k0_part11_eq_skeleton]
  unfold k0_part11_skel
  simp only [Prog.lift, Prog.bind_op, Prog.bind_ret, Prog.pure_eq_ret]
  iapply (wp_loadWo m c 1) $$ HR
  iintro HR
  iapply (st_waitK m K c 2 8) $$ HA k_2
  iintro HA k_2
  iapply (st_waitV m K c 2 8) $$ HA v_2
  iintro HA v_2
  iapply (st_loadKp m c 2) $$ k_2
  iintro k_2
  iapply (st_loadVp m c 2) $$ v_2
  iintro v_2
  iapply Hk $$ HA HR k_2 v_2

theorem part12 (v175 : FVec F S1x4096 .f32) (v269 : FVec F S256x1024 .f32) (v330 : FVec F S64x1024 .f32) (v354 : FVec F S64x128 .f32) (v355 : FVec F S64x128 .f32)
    {k : (Σ' (v360 : FVec F S64x1024 .f32), FVec F S64x128 .f32) → Prog (TpuEff nD τ sig (Elt F) Λ₀ .tc) α} :
    ⊢ iprop(acct m K c 8 -∗ roW m c -∗ kMid c 3 -∗ vMid c 3 -∗ (acct m K c 8 -∗ roW m c -∗ kDone m c 3 -∗ vDone m c 3 -∗ wpp c (k ⟨k0_pay26 v330 v354 v355 (rdWo (woC m c) 2), k0_pay27 v175 v269 (rdHd (kC m c) 3) (rdHd (vC m c) 3)⟩) Q)
      -∗ wpp c (k0_part12 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v175 v269 v330 v354 v355 >>= k) Q) := by
  iintro HA HR k_3 v_3 Hk
  rw [k0_part12_eq_skeleton]
  unfold k0_part12_skel
  simp only [Prog.lift, Prog.bind_op, Prog.bind_ret, Prog.pure_eq_ret]
  iapply (wp_loadWo m c 2) $$ HR
  iintro HR
  iapply (st_waitK m K c 3 8) $$ HA k_3
  iintro HA k_3
  iapply (st_waitV m K c 3 8) $$ HA v_3
  iintro HA v_3
  iapply (st_loadKp m c 3) $$ k_3
  iintro k_3
  iapply (st_loadVp m c 3) $$ v_3
  iintro v_3
  iapply Hk $$ HA HR k_3 v_3

theorem part13 (v175 : FVec F S1x4096 .f32) (v269 : FVec F S256x1024 .f32) (v360 : FVec F S64x1024 .f32) (v386 : FVec F S64x128 .f32)
    {k : (Σ' (v390 : FVec F S64x1024 .f32) (v416 : FVec F S64x128 .f32), Vec F S128x1024 .f32) → Prog (TpuEff nD τ sig (Elt F) Λ₀ .tc) α} :
    ⊢ iprop(acct m K c 8 -∗ roW m c -∗ kMid c 4 -∗ vMid c 4 -∗ (acct m K c 8 -∗ roW m c -∗ kDone m c 4 -∗ vDone m c 4 -∗ wpp c (k ⟨k0_pay28 v360 v386 (rdWo (woC m c) 3), k0_pay29 v175 v269 (rdHd (kC m c) 4) (rdHd (vC m c) 4), (rdWo (woC m c) 4)⟩) Q)
      -∗ wpp c (k0_part13 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v175 v269 v360 v386 >>= k) Q) := by
  iintro HA HR k_4 v_4 Hk
  rw [k0_part13_eq_skeleton]
  unfold k0_part13_skel
  simp only [Prog.lift, Prog.bind_op, Prog.bind_ret, Prog.pure_eq_ret]
  iapply (wp_loadWo m c 3) $$ HR
  iintro HR
  iapply (st_waitK m K c 4 8) $$ HA k_4
  iintro HA k_4
  iapply (st_waitV m K c 4 8) $$ HA v_4
  iintro HA v_4
  iapply (st_loadKp m c 4) $$ k_4
  iintro k_4
  iapply (st_loadVp m c 4) $$ v_4
  iintro v_4
  iapply (wp_loadWo m c 4) $$ HR
  iintro HR
  iapply Hk $$ HA HR k_4 v_4

theorem part14 (v175 : FVec F S1x4096 .f32) (v269 : FVec F S256x1024 .f32) (v390 : FVec F S64x1024 .f32) (v416 : FVec F S64x128 .f32) (v417 : Vec F S128x1024 .f32)
    {k : (Σ' (v420 : FVec F S64x1024 .f32) (v446 : FVec F S64x128 .f32) (v448 : FVec F S128x1024 .f32), FVec F S64x1024 .f32) → Prog (TpuEff nD τ sig (Elt F) Λ₀ .tc) α} :
    ⊢ iprop(acct m K c 8 -∗ kMid c 5 -∗ vMid c 5 -∗ roW m c -∗ (acct m K c 8 -∗ kDone m c 5 -∗ vDone m c 5 -∗ roW m c -∗ wpp c (k ⟨k0_pay30 v390 v416 v417, k0_pay31 v175 v269 (rdHd (kC m c) 5) (rdHd (vC m c) 5), k0_pay32 (rdWo (woC m c) 5), (constant S64x1024 .f32 0x00000000#32)⟩) Q)
      -∗ wpp c (k0_part14 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v175 v269 v390 v416 v417 >>= k) Q) := by
  iintro HA k_5 v_5 HR Hk
  rw [k0_part14_eq_skeleton]
  unfold k0_part14_skel
  simp only [Prog.lift, Prog.bind_op, Prog.bind_ret, Prog.pure_eq_ret]
  iapply (st_waitK m K c 5 8) $$ HA k_5
  iintro HA k_5
  iapply (st_waitV m K c 5 8) $$ HA v_5
  iintro HA v_5
  iapply (st_loadKp m c 5) $$ k_5
  iintro k_5
  iapply (st_loadVp m c 5) $$ v_5
  iintro v_5
  iapply (wp_loadWo m c 5) $$ HR
  iintro HR
  iapply Hk $$ HA k_5 v_5 HR

theorem part15 (v175 : FVec F S1x4096 .f32) (v269 : FVec F S256x1024 .f32) (v420 : FVec F S64x1024 .f32) (v446 : FVec F S64x128 .f32) (v448 : FVec F S128x1024 .f32) (cst_335 : FVec F S64x1024 .f32)
    {k : (FVec F S64x1024 .f32) → Prog (TpuEff nD τ sig (Elt F) Λ₀ .tc) α} :
    ⊢ iprop(acct m K c 8 -∗ kMid c 6 -∗ vMid c 6 -∗ roW m c -∗ (acct m K c 8 -∗ kDone m c 6 -∗ vDone m c 6 -∗ roW m c -∗ wpp c (k (k0_pay33 v175 v269 v420 v446 v448 cst_335 (rdHd (kC m c) 6) (rdHd (vC m c) 6) (rdWo (woC m c) 6))) Q)
      -∗ wpp c (k0_part15 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v175 v269 v420 v446 v448 cst_335 >>= k) Q) := by
  iintro HA k_6 v_6 HR Hk
  rw [k0_part15_eq_skeleton]
  unfold k0_part15_skel
  simp only [Prog.lift, Prog.bind_op, Prog.bind_ret, Prog.pure_eq_ret]
  iapply (st_waitK m K c 6 8) $$ HA k_6
  iintro HA k_6
  iapply (st_waitV m K c 6 8) $$ HA v_6
  iintro HA v_6
  iapply (st_loadKp m c 6) $$ k_6
  iintro k_6
  iapply (st_loadVp m c 6) $$ v_6
  iintro v_6
  iapply (wp_loadWo m c 6) $$ HR
  iintro HR
  iapply Hk $$ HA k_6 v_6 HR

theorem part16 (v175 : FVec F S1x4096 .f32) (v269 : FVec F S256x1024 .f32) (v480 : FVec F S64x1024 .f32)
    {k : (FVec F S64x1024 .f32) → Prog (TpuEff nD τ sig (Elt F) Λ₀ .tc) α} :
    ⊢ iprop(acct m K c 8 -∗ kMid c 7 -∗ vMid c 7 -∗ roW m c -∗ (acct m K c 8 -∗ kDone m c 7 -∗ vDone m c 7 -∗ roW m c -∗ wpp c (k (k0_pay34 v175 v269 v480 (rdHd (kC m c) 7) (rdHd (vC m c) 7) (rdWo (woC m c) 7))) Q)
      -∗ wpp c (k0_part16 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v175 v269 v480 >>= k) Q) := by
  iintro HA k_7 v_7 HR Hk
  rw [k0_part16_eq_skeleton]
  unfold k0_part16_skel
  simp only [Prog.lift, Prog.bind_op, Prog.bind_ret, Prog.pure_eq_ret]
  iapply (st_waitK m K c 7 8) $$ HA k_7
  iintro HA k_7
  iapply (st_waitV m K c 7 8) $$ HA v_7
  iintro HA v_7
  iapply (st_loadKp m c 7) $$ k_7
  iintro k_7
  iapply (st_loadVp m c 7) $$ v_7
  iintro v_7
  iapply (wp_loadWo m c 7) $$ HR
  iintro HR
  iapply Hk $$ HA k_7 v_7 HR

end Cert.AttnProof

end
-- ==== Proof.Attn.PartsB.lean ====
/-
  The later row blocks and both exchanges: what each stretch of the body does.
-/
module

public import proofs.«01_k».proof.Proof.Gen.KernelIdeal.Skeleton
public import proofs.«01_k».proof.Proof.Attn.Stages

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

variable (K : Dev nD × Fin 33 → ℕ) (c : Dev nD) {α : Type} {Q : α → sProp (MT nD τ sig Unit (Elt F) ℕ UU ℕ)}

/-- The store of a row block of the result, its place counted. -/
theorem st_out (q : Fin 4) (n n' : ℕ) (hn : q.val = n) (hn' : q.val + 1 = n') {w : Vec F S1x64x1024 .f32} (hw : w = sumC m c q)
    {hx : (outM.access (outR q)).Stores Finset.univ} {hm : (Finset.univ : Finset (outR q).shape.Idx) = Finset.univ ∨ ∀ a, (outR q).stride a = 1}
    {k : PUnit.{1} → Prog (TpuEff nD τ sig (Elt F) Λ₀ .tc) α} :
    ⊢ iprop(outP m c n -∗ (outP m c n' -∗ wpp c (k ⟨⟩) Q) -∗ wpp c (.op (.store outM (outR q) w Finset.univ hx hm) k) Q) := by
  subst hn hn'
  exact wp_storeOut m c q hw

theorem part17 (v3 : BitVec 32) (v204 : FVec F S1x4096 .f32) (v269 : FVec F S256x1024 .f32) (v510 : FVec F S64x1024 .f32) (hst : (k0_pay35 v510) = accC m c 0)
    {k : (Σ' (v542 : FVec F S64x1024 .f32), FVec F S64x128 .f32) → Prog (TpuEff nD τ sig (Elt F) Λ₀ .tc) α} :
    ⊢ iprop(acct m K c 8 -∗ s1In c 0 -∗ d1 c 0 -∗ KV m c -∗ roW m c -∗ (acct m K c 7 -∗ s1Mid m c 0 -∗ KV m c -∗ roW m c -∗ wpp c (k ⟨k0_pay36 v204 v269 (rdHd (kC m c) 0) (rdHd (vC m c) 0) (rdWo (woC m c) 0), k0_pay37 v269⟩) Q)
      -∗ wpp c (k0_part17 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v3 v204 v269 v510 >>= k) Q) := by
  iintro HA s1_0 d1_0 HK HR Hk
  rw [k0_part17_eq_skeleton]
  unfold k0_part17_skel
  simp only [Prog.lift, Prog.bind_op, Prog.bind_ret, Prog.pure_eq_ret]
  iapply (st_dead1 c 0) $$ s1_0
  iintro %w s1_0
  iapply (st_store1 m c 0 hst) $$ s1_0
  iintro s1_0
  iapply (st_send1 m K c 0 7 rfl (dev3_eq c)) $$ HA s1_0 d1_0
  iintro HA s1_0
  iapply (st_loadK m c 0) $$ HK
  iintro HK
  iapply (st_loadV m c 0) $$ HK
  iintro HK
  iapply (wp_loadWo m c 0) $$ HR
  iintro HR
  iapply Hk $$ HA s1_0 HK HR

theorem part18 (v204 : FVec F S1x4096 .f32) (v269 : FVec F S256x1024 .f32) (v542 : FVec F S64x1024 .f32) (v543 : FVec F S64x128 .f32)
    {k : (Σ' (v578 : FVec F S64x1024 .f32), FVec F S64x128 .f32) → Prog (TpuEff nD τ sig (Elt F) Λ₀ .tc) α} :
    ⊢ iprop(KV m c -∗ roW m c -∗ (KV m c -∗ roW m c -∗ wpp c (k ⟨k0_pay38 v204 v269 v542 v543 (rdHd (kC m c) 1) (rdHd (vC m c) 1) (rdWo (woC m c) 1) (rdHd (kC m c) 2) (rdHd (vC m c) 2) (rdWo (woC m c) 2), k0_pay39 v269⟩) Q)
      -∗ wpp c (k0_part18 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v204 v269 v542 v543 >>= k) Q) := by
  iintro HK HR Hk
  rw [k0_part18_eq_skeleton]
  unfold k0_part18_skel
  simp only [Prog.lift, Prog.bind_op, Prog.bind_ret, Prog.pure_eq_ret]
  iapply (st_loadK m c 1) $$ HK
  iintro HK
  iapply (st_loadV m c 1) $$ HK
  iintro HK
  iapply (wp_loadWo m c 1) $$ HR
  iintro HR
  iapply (st_loadK m c 2) $$ HK
  iintro HK
  iapply (st_loadV m c 2) $$ HK
  iintro HK
  iapply (wp_loadWo m c 2) $$ HR
  iintro HR
  iapply Hk $$ HK HR

theorem part19 (v204 : FVec F S1x4096 .f32) (v269 : FVec F S256x1024 .f32) (v578 : FVec F S64x1024 .f32) (v579 : FVec F S64x128 .f32)
    {k : (Σ' (v614 : FVec F S64x1024 .f32), FVec F S64x128 .f32) → Prog (TpuEff nD τ sig (Elt F) Λ₀ .tc) α} :
    ⊢ iprop(KV m c -∗ roW m c -∗ (KV m c -∗ roW m c -∗ wpp c (k ⟨k0_pay40 v204 v269 v578 v579 (rdHd (kC m c) 3) (rdHd (vC m c) 3) (rdWo (woC m c) 3) (rdHd (kC m c) 4) (rdHd (vC m c) 4) (rdWo (woC m c) 4), k0_pay41 v269⟩) Q)
      -∗ wpp c (k0_part19 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v204 v269 v578 v579 >>= k) Q) := by
  iintro HK HR Hk
  rw [k0_part19_eq_skeleton]
  unfold k0_part19_skel
  simp only [Prog.lift, Prog.bind_op, Prog.bind_ret, Prog.pure_eq_ret]
  iapply (st_loadK m c 3) $$ HK
  iintro HK
  iapply (st_loadV m c 3) $$ HK
  iintro HK
  iapply (wp_loadWo m c 3) $$ HR
  iintro HR
  iapply (st_loadK m c 4) $$ HK
  iintro HK
  iapply (st_loadV m c 4) $$ HK
  iintro HK
  iapply (wp_loadWo m c 4) $$ HR
  iintro HR
  iapply Hk $$ HK HR

theorem part20 (v204 : FVec F S1x4096 .f32) (v269 : FVec F S256x1024 .f32) (v614 : FVec F S64x1024 .f32) (v615 : FVec F S64x128 .f32)
    {k : (Σ' (v650 : FVec F S64x1024 .f32), FVec F S64x128 .f32) → Prog (TpuEff nD τ sig (Elt F) Λ₀ .tc) α} :
    ⊢ iprop(KV m c -∗ roW m c -∗ (KV m c -∗ roW m c -∗ wpp c (k ⟨k0_pay42 v204 v269 v614 v615 (rdHd (kC m c) 5) (rdHd (vC m c) 5) (rdWo (woC m c) 5) (rdHd (kC m c) 6) (rdHd (vC m c) 6) (rdWo (woC m c) 6), k0_pay43 v269⟩) Q)
      -∗ wpp c (k0_part20 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v204 v269 v614 v615 >>= k) Q) := by
  iintro HK HR Hk
  rw [k0_part20_eq_skeleton]
  unfold k0_part20_skel
  simp only [Prog.lift, Prog.bind_op, Prog.bind_ret, Prog.pure_eq_ret]
  iapply (st_loadK m c 5) $$ HK
  iintro HK
  iapply (st_loadV m c 5) $$ HK
  iintro HK
  iapply (wp_loadWo m c 5) $$ HR
  iintro HR
  iapply (st_loadK m c 6) $$ HK
  iintro HK
  iapply (st_loadV m c 6) $$ HK
  iintro HK
  iapply (wp_loadWo m c 6) $$ HR
  iintro HR
  iapply Hk $$ HK HR

theorem part21 (v3 : BitVec 32) (v204 : FVec F S1x4096 .f32) (v650 : FVec F S64x1024 .f32) (v651 : FVec F S64x128 .f32) (hst : (k0_pay44 v204 v650 v651 (rdHd (kC m c) 7) (rdHd (vC m c) 7) (rdWo (woC m c) 7)) = accC m c 1)
    {k : (PUnit) → Prog (TpuEff nD τ sig (Elt F) Λ₀ .tc) α} :
    ⊢ iprop(acct m K c 7 -∗ KV m c -∗ roW m c -∗ s1In c 1 -∗ d1 c 1 -∗ (acct m K c 6 -∗ KV m c -∗ roW m c -∗ s1Mid m c 1 -∗ wpp c (k ⟨⟩) Q)
      -∗ wpp c (k0_part21 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v3 v204 v650 v651 >>= k) Q) := by
  iintro HA HK HR s1_1 d1_1 Hk
  rw [k0_part21_eq_skeleton]
  unfold k0_part21_skel
  simp only [Prog.lift, Prog.bind_op, Prog.bind_ret, Prog.pure_eq_ret]
  iapply (st_loadK m c 7) $$ HK
  iintro HK
  iapply (st_loadV m c 7) $$ HK
  iintro HK
  iapply (wp_loadWo m c 7) $$ HR
  iintro HR
  iapply (st_dead1 c 1) $$ s1_1
  iintro %w s1_1
  iapply (st_store1 m c 1 hst) $$ s1_1
  iintro s1_1
  iapply (st_send1 m K c 1 6 rfl (dev4_eq c)) $$ HA s1_1 d1_1
  iintro HA s1_1
  iapply Hk $$ HA HK HR s1_1

theorem part22 (v3 : BitVec 32) (v4 : BitVec 32) (v269 : FVec F S256x1024 .f32)
    {k : (Σ' (v708 : FVec F S64x1024 .f32), FVec F S64x128 .f32) → Prog (TpuEff nD τ sig (Elt F) Λ₀ .tc) α} :
    ⊢ iprop(acct m K c 6 -∗ r1In c 0 -∗ s1Mid m c 0 -∗ s2In c 0 -∗ d2 c 0 -∗ (acct m K c 5 -∗ r1Done m c 0 -∗ s1Mid m c 0 -∗ s2Mid c 0 -∗ wpp c (k ⟨k0_pay46 (F := F), k0_pay47 v269⟩) Q)
      -∗ wpp c (k0_part22 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v3 v4 v269 >>= k) Q) := by
  iintro HA r1_0 s1_0 s2_0 d2_0 Hk
  rw [k0_part22_eq_skeleton]
  unfold k0_part22_skel
  simp only [Prog.lift, Prog.bind_op, Prog.bind_ret, Prog.pure_eq_ret]
  iapply (st_waitR1 m K c 0 6 (by decide)) $$ HA r1_0
  iintro HA r1_0
  iapply (st_load1 m c 0) $$ s1_0
  iintro s1_0
  iapply (st_loadR1 m c 0) $$ r1_0
  iintro r1_0
  iapply (st_dead2 c 0) $$ s2_0
  iintro %w s2_0
  iapply (st_store2 m c 0 rfl) $$ s2_0
  iintro s2_0
  iapply (st_send2 m K c 0 5 rfl (dev5_eq c)) $$ HA s2_0 d2_0
  iintro HA s2_0
  iapply Hk $$ HA r1_0 s1_0 s2_0

theorem part23 (v233 : FVec F S1x4096 .f32) (v269 : FVec F S256x1024 .f32) (v708 : FVec F S64x1024 .f32) (v709 : FVec F S64x128 .f32)
    {k : (Σ' (v744 : FVec F S64x1024 .f32), FVec F S64x128 .f32) → Prog (TpuEff nD τ sig (Elt F) Λ₀ .tc) α} :
    ⊢ iprop(KV m c -∗ roW m c -∗ (KV m c -∗ roW m c -∗ wpp c (k ⟨k0_pay48 v233 v269 v708 v709 (rdHd (kC m c) 0) (rdHd (vC m c) 0) (rdWo (woC m c) 0) (rdHd (kC m c) 1) (rdHd (vC m c) 1) (rdWo (woC m c) 1), k0_pay49 v269⟩) Q)
      -∗ wpp c (k0_part23 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v233 v269 v708 v709 >>= k) Q) := by
  iintro HK HR Hk
  rw [k0_part23_eq_skeleton]
  unfold k0_part23_skel
  simp only [Prog.lift, Prog.bind_op, Prog.bind_ret, Prog.pure_eq_ret]
  iapply (st_loadK m c 0) $$ HK
  iintro HK
  iapply (st_loadV m c 0) $$ HK
  iintro HK
  iapply (wp_loadWo m c 0) $$ HR
  iintro HR
  iapply (st_loadK m c 1) $$ HK
  iintro HK
  iapply (st_loadV m c 1) $$ HK
  iintro HK
  iapply (wp_loadWo m c 1) $$ HR
  iintro HR
  iapply Hk $$ HK HR

theorem part24 (v233 : FVec F S1x4096 .f32) (v269 : FVec F S256x1024 .f32) (v744 : FVec F S64x1024 .f32) (v745 : FVec F S64x128 .f32)
    {k : (Σ' (v780 : FVec F S64x1024 .f32), FVec F S64x128 .f32) → Prog (TpuEff nD τ sig (Elt F) Λ₀ .tc) α} :
    ⊢ iprop(KV m c -∗ roW m c -∗ (KV m c -∗ roW m c -∗ wpp c (k ⟨k0_pay50 v233 v269 v744 v745 (rdHd (kC m c) 2) (rdHd (vC m c) 2) (rdWo (woC m c) 2) (rdHd (kC m c) 3) (rdHd (vC m c) 3) (rdWo (woC m c) 3), k0_pay51 v269⟩) Q)
      -∗ wpp c (k0_part24 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v233 v269 v744 v745 >>= k) Q) := by
  iintro HK HR Hk
  rw [k0_part24_eq_skeleton]
  unfold k0_part24_skel
  simp only [Prog.lift, Prog.bind_op, Prog.bind_ret, Prog.pure_eq_ret]
  iapply (st_loadK m c 2) $$ HK
  iintro HK
  iapply (st_loadV m c 2) $$ HK
  iintro HK
  iapply (wp_loadWo m c 2) $$ HR
  iintro HR
  iapply (st_loadK m c 3) $$ HK
  iintro HK
  iapply (st_loadV m c 3) $$ HK
  iintro HK
  iapply (wp_loadWo m c 3) $$ HR
  iintro HR
  iapply Hk $$ HK HR

theorem part25 (v233 : FVec F S1x4096 .f32) (v269 : FVec F S256x1024 .f32) (v780 : FVec F S64x1024 .f32) (v781 : FVec F S64x128 .f32)
    {k : (Σ' (v816 : FVec F S64x1024 .f32), FVec F S64x128 .f32) → Prog (TpuEff nD τ sig (Elt F) Λ₀ .tc) α} :
    ⊢ iprop(KV m c -∗ roW m c -∗ (KV m c -∗ roW m c -∗ wpp c (k ⟨k0_pay52 v233 v269 v780 v781 (rdHd (kC m c) 4) (rdHd (vC m c) 4) (rdWo (woC m c) 4) (rdHd (kC m c) 5) (rdHd (vC m c) 5) (rdWo (woC m c) 5), k0_pay53 v269⟩) Q)
      -∗ wpp c (k0_part25 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v233 v269 v780 v781 >>= k) Q) := by
  iintro HK HR Hk
  rw [k0_part25_eq_skeleton]
  unfold k0_part25_skel
  simp only [Prog.lift, Prog.bind_op, Prog.bind_ret, Prog.pure_eq_ret]
  iapply (st_loadK m c 4) $$ HK
  iintro HK
  iapply (st_loadV m c 4) $$ HK
  iintro HK
  iapply (wp_loadWo m c 4) $$ HR
  iintro HR
  iapply (st_loadK m c 5) $$ HK
  iintro HK
  iapply (st_loadV m c 5) $$ HK
  iintro HK
  iapply (wp_loadWo m c 5) $$ HR
  iintro HR
  iapply Hk $$ HK HR

theorem part26 (v233 : FVec F S1x4096 .f32) (v269 : FVec F S256x1024 .f32) (v816 : FVec F S64x1024 .f32) (v817 : FVec F S64x128 .f32)
    {k : (Σ' (v852 : FVec F S64x1024 .f32), Vec F S1x64x1024 .f32) → Prog (TpuEff nD τ sig (Elt F) Λ₀ .tc) α} :
    ⊢ iprop(KV m c -∗ roW m c -∗ s1In c 2 -∗ (∀ w : Vec F S1x64x1024 .f32, KV m c -∗ roW m c -∗ s1In c 2 -∗ wpp c (k ⟨k0_pay54 v233 v269 v816 v817 (rdHd (kC m c) 6) (rdHd (vC m c) 6) (rdWo (woC m c) 6) (rdHd (kC m c) 7) (rdHd (vC m c) 7) (rdWo (woC m c) 7), w⟩) Q)
      -∗ wpp c (k0_part26 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v233 v269 v816 v817 >>= k) Q) := by
  iintro HK HR s1_2 Hk
  rw [k0_part26_eq_skeleton]
  unfold k0_part26_skel
  simp only [Prog.lift, Prog.bind_op, Prog.bind_ret, Prog.pure_eq_ret]
  iapply (st_loadK m c 6) $$ HK
  iintro HK
  iapply (st_loadV m c 6) $$ HK
  iintro HK
  iapply (wp_loadWo m c 6) $$ HR
  iintro HR
  iapply (st_loadK m c 7) $$ HK
  iintro HK
  iapply (st_loadV m c 7) $$ HK
  iintro HK
  iapply (wp_loadWo m c 7) $$ HR
  iintro HR
  iapply (st_dead1 c 2) $$ s1_2
  iintro %w s1_2
  iapply Hk $$ %w HK HR s1_2

theorem part27 (v3 : BitVec 32) (v852 : FVec F S64x1024 .f32) (v853 : Vec F S1x64x1024 .f32) (hst : (k0_pay55 v852) = accC m c 2)
    {k : (FVec F S1x64x1024 .f32) → Prog (TpuEff nD τ sig (Elt F) Λ₀ .tc) α} :
    ⊢ iprop(acct m K c 5 -∗ s1In c 2 -∗ d1 c 2 -∗ r1In c 1 -∗ s1Mid m c 1 -∗ s2In c 1 -∗ (acct m K c 4 -∗ s1Mid m c 2 -∗ r1Done m c 1 -∗ s1Mid m c 1 -∗ s2In c 1 -∗ wpp c (k (k0_pay56 (accC m c 1) (accC m (p1 c) 1))) Q)
      -∗ wpp c (k0_part27 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v3 v852 v853 >>= k) Q) := by
  iintro HA s1_2 d1_2 r1_1 s1_1 s2_1 Hk
  rw [k0_part27_eq_skeleton]
  unfold k0_part27_skel
  simp only [Prog.lift, Prog.bind_op, Prog.bind_ret, Prog.pure_eq_ret]
  iapply (st_store1 m c 2 hst) $$ s1_2
  iintro s1_2
  iapply (st_send1 m K c 2 4 rfl (dev6_eq c)) $$ HA s1_2 d1_2
  iintro HA s1_2
  iapply (st_waitR1 m K c 1 4 (by decide)) $$ HA r1_1
  iintro HA r1_1
  iapply (st_load1 m c 1) $$ s1_1
  iintro s1_1
  iapply (st_loadR1 m c 1) $$ r1_1
  iintro r1_1
  iapply (st_dead2 c 1) $$ s2_1
  iintro %w s2_1
  iapply Hk $$ HA s1_2 r1_1 s1_1 s2_1

theorem part28 (v4 : BitVec 32) (v262 : FVec F S1x4096 .f32) (v269 : FVec F S256x1024 .f32) (v881 : FVec F S1x64x1024 .f32) (hst : v881 = midC m c 1)
    {k : (Σ' (v910 : FVec F S64x1024 .f32) (v911 : FVec F S64x128 .f32), FVec F S4096x128 .f32) → Prog (TpuEff nD τ sig (Elt F) Λ₀ .tc) α} :
    ⊢ iprop(acct m K c 4 -∗ s2In c 1 -∗ d2 c 1 -∗ KV m c -∗ roW m c -∗ (acct m K c 3 -∗ s2Mid c 1 -∗ KV m c -∗ roW m c -∗ wpp c (k ⟨k0_pay57 v262 v269 (rdHd (kC m c) 0) (rdHd (vC m c) 0) (rdWo (woC m c) 0), k0_pay58 v269, k0_pay59 (rdHd (kC m c) 1)⟩) Q)
      -∗ wpp c (k0_part28 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v4 v262 v269 v881 >>= k) Q) := by
  iintro HA s2_1 d2_1 HK HR Hk
  rw [k0_part28_eq_skeleton]
  unfold k0_part28_skel
  simp only [Prog.lift, Prog.bind_op, Prog.bind_ret, Prog.pure_eq_ret]
  iapply (st_store2 m c 1 hst) $$ s2_1
  iintro s2_1
  iapply (st_send2 m K c 1 3 rfl (dev7_eq c)) $$ HA s2_1 d2_1
  iintro HA s2_1
  iapply (st_loadK m c 0) $$ HK
  iintro HK
  iapply (st_loadV m c 0) $$ HK
  iintro HK
  iapply (wp_loadWo m c 0) $$ HR
  iintro HR
  iapply (st_loadK m c 1) $$ HK
  iintro HK
  iapply Hk $$ HA s2_1 HK HR

theorem part29 (v262 : FVec F S1x4096 .f32) (v269 : FVec F S256x1024 .f32) (v910 : FVec F S64x1024 .f32) (v911 : FVec F S64x128 .f32) (v913 : FVec F S4096x128 .f32)
    {k : (Σ' (v946 : FVec F S64x1024 .f32) (v947 : FVec F S64x128 .f32), FVec F S4096x128 .f32) → Prog (TpuEff nD τ sig (Elt F) Λ₀ .tc) α} :
    ⊢ iprop(KV m c -∗ roW m c -∗ (KV m c -∗ roW m c -∗ wpp c (k ⟨k0_pay60 v262 v269 v910 v911 v913 (rdHd (vC m c) 1) (rdWo (woC m c) 1) (rdHd (kC m c) 2) (rdHd (vC m c) 2) (rdWo (woC m c) 2), k0_pay61 v269, k0_pay62 (rdHd (kC m c) 3)⟩) Q)
      -∗ wpp c (k0_part29 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v262 v269 v910 v911 v913 >>= k) Q) := by
  iintro HK HR Hk
  rw [k0_part29_eq_skeleton]
  unfold k0_part29_skel
  simp only [Prog.lift, Prog.bind_op, Prog.bind_ret, Prog.pure_eq_ret]
  iapply (st_loadV m c 1) $$ HK
  iintro HK
  iapply (wp_loadWo m c 1) $$ HR
  iintro HR
  iapply (st_loadK m c 2) $$ HK
  iintro HK
  iapply (st_loadV m c 2) $$ HK
  iintro HK
  iapply (wp_loadWo m c 2) $$ HR
  iintro HR
  iapply (st_loadK m c 3) $$ HK
  iintro HK
  iapply Hk $$ HK HR

theorem part30 (v262 : FVec F S1x4096 .f32) (v269 : FVec F S256x1024 .f32) (v946 : FVec F S64x1024 .f32) (v947 : FVec F S64x128 .f32) (v949 : FVec F S4096x128 .f32)
    {k : (Σ' (v982 : FVec F S64x1024 .f32) (v983 : FVec F S64x128 .f32), FVec F S4096x128 .f32) → Prog (TpuEff nD τ sig (Elt F) Λ₀ .tc) α} :
    ⊢ iprop(KV m c -∗ roW m c -∗ (KV m c -∗ roW m c -∗ wpp c (k ⟨k0_pay63 v262 v269 v946 v947 v949 (rdHd (vC m c) 3) (rdWo (woC m c) 3) (rdHd (kC m c) 4) (rdHd (vC m c) 4) (rdWo (woC m c) 4), k0_pay64 v269, k0_pay65 (rdHd (kC m c) 5)⟩) Q)
      -∗ wpp c (k0_part30 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v262 v269 v946 v947 v949 >>= k) Q) := by
  iintro HK HR Hk
  rw [k0_part30_eq_skeleton]
  unfold k0_part30_skel
  simp only [Prog.lift, Prog.bind_op, Prog.bind_ret, Prog.pure_eq_ret]
  iapply (st_loadV m c 3) $$ HK
  iintro HK
  iapply (wp_loadWo m c 3) $$ HR
  iintro HR
  iapply (st_loadK m c 4) $$ HK
  iintro HK
  iapply (st_loadV m c 4) $$ HK
  iintro HK
  iapply (wp_loadWo m c 4) $$ HR
  iintro HR
  iapply (st_loadK m c 5) $$ HK
  iintro HK
  iapply Hk $$ HK HR

theorem part31 (v262 : FVec F S1x4096 .f32) (v269 : FVec F S256x1024 .f32) (v982 : FVec F S64x1024 .f32) (v983 : FVec F S64x128 .f32) (v985 : FVec F S4096x128 .f32)
    {k : (Σ' (v1018 : FVec F S64x1024 .f32) (v1019 : FVec F S64x128 .f32), FVec F S4096x128 .f32) → Prog (TpuEff nD τ sig (Elt F) Λ₀ .tc) α} :
    ⊢ iprop(KV m c -∗ roW m c -∗ (KV m c -∗ roW m c -∗ wpp c (k ⟨k0_pay66 v262 v269 v982 v983 v985 (rdHd (vC m c) 5) (rdWo (woC m c) 5) (rdHd (kC m c) 6) (rdHd (vC m c) 6) (rdWo (woC m c) 6), k0_pay67 v269, k0_pay68 (rdHd (kC m c) 7)⟩) Q)
      -∗ wpp c (k0_part31 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v262 v269 v982 v983 v985 >>= k) Q) := by
  iintro HK HR Hk
  rw [k0_part31_eq_skeleton]
  unfold k0_part31_skel
  simp only [Prog.lift, Prog.bind_op, Prog.bind_ret, Prog.pure_eq_ret]
  iapply (st_loadV m c 5) $$ HK
  iintro HK
  iapply (wp_loadWo m c 5) $$ HR
  iintro HR
  iapply (st_loadK m c 6) $$ HK
  iintro HK
  iapply (st_loadV m c 6) $$ HK
  iintro HK
  iapply (wp_loadWo m c 6) $$ HR
  iintro HR
  iapply (st_loadK m c 7) $$ HK
  iintro HK
  iapply Hk $$ HK HR

theorem part32 (v3 : BitVec 32) (v262 : FVec F S1x4096 .f32) (v1018 : FVec F S64x1024 .f32) (v1019 : FVec F S64x128 .f32) (v1021 : FVec F S4096x128 .f32) (hst : (k0_pay69 v262 v1018 v1019 v1021 (rdHd (vC m c) 7) (rdWo (woC m c) 7)) = accC m c 3)
    {k : (PUnit) → Prog (TpuEff nD τ sig (Elt F) Λ₀ .tc) α} :
    ⊢ iprop(acct m K c 3 -∗ KV m c -∗ roW m c -∗ s1In c 3 -∗ d1 c 3 -∗ (acct m K c 2 -∗ KV m c -∗ roW m c -∗ s1Mid m c 3 -∗ wpp c (k ⟨⟩) Q)
      -∗ wpp c (k0_part32 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v3 v262 v1018 v1019 v1021 >>= k) Q) := by
  iintro HA HK HR s1_3 d1_3 Hk
  rw [k0_part32_eq_skeleton]
  unfold k0_part32_skel
  simp only [Prog.lift, Prog.bind_op, Prog.bind_ret, Prog.pure_eq_ret]
  iapply (st_loadV m c 7) $$ HK
  iintro HK
  iapply (wp_loadWo m c 7) $$ HR
  iintro HR
  iapply (st_dead1 c 3) $$ s1_3
  iintro %w s1_3
  iapply (st_store1 m c 3 hst) $$ s1_3
  iintro s1_3
  iapply (st_send1 m K c 3 2 rfl (dev8_eq c)) $$ HA s1_3 d1_3
  iintro HA s1_3
  iapply Hk $$ HA HK HR s1_3

theorem part33 (v3 : BitVec 32) (v4 : BitVec 32)
    {k : (PUnit) → Prog (TpuEff nD τ sig (Elt F) Λ₀ .tc) α} :
    ⊢ iprop(acct m K c 2 -∗ r1In c 2 -∗ s1Mid m c 2 -∗ s2In c 2 -∗ d2 c 2 -∗ (acct m K c 1 -∗ r1Done m c 2 -∗ s1Mid m c 2 -∗ s2Mid c 2 -∗ wpp c (k ⟨⟩) Q)
      -∗ wpp c (k0_part33 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v3 v4 >>= k) Q) := by
  iintro HA r1_2 s1_2 s2_2 d2_2 Hk
  rw [k0_part33_eq_skeleton]
  unfold k0_part33_skel
  simp only [Prog.lift, Prog.bind_op, Prog.bind_ret, Prog.pure_eq_ret]
  iapply (st_waitR1 m K c 2 2 (by decide)) $$ HA r1_2
  iintro HA r1_2
  iapply (st_load1 m c 2) $$ s1_2
  iintro s1_2
  iapply (st_loadR1 m c 2) $$ r1_2
  iintro r1_2
  iapply (st_dead2 c 2) $$ s2_2
  iintro %w s2_2
  iapply (st_store2 m c 2 rfl) $$ s2_2
  iintro s2_2
  iapply (st_send2 m K c 2 1 rfl (dev9_eq c)) $$ HA s2_2 d2_2
  iintro HA s2_2
  iapply Hk $$ HA r1_2 s1_2 s2_2

theorem part34 (v4 : BitVec 32)
    {k : (PUnit) → Prog (TpuEff nD τ sig (Elt F) Λ₀ .tc) α} :
    ⊢ iprop(acct m K c 1 -∗ r1In c 3 -∗ s1Mid m c 3 -∗ s2In c 3 -∗ d2 c 3 -∗ (acct m K c 0 -∗ r1Done m c 3 -∗ s1Mid m c 3 -∗ s2Mid c 3 -∗ wpp c (k ⟨⟩) Q)
      -∗ wpp c (k0_part34 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 c v4 >>= k) Q) := by
  iintro HA r1_3 s1_3 s2_3 d2_3 Hk
  rw [k0_part34_eq_skeleton]
  unfold k0_part34_skel
  simp only [Prog.lift, Prog.bind_op, Prog.bind_ret, Prog.pure_eq_ret]
  iapply (st_waitR1 m K c 3 1 (by decide)) $$ HA r1_3
  iintro HA r1_3
  iapply (st_load1 m c 3) $$ s1_3
  iintro s1_3
  iapply (st_loadR1 m c 3) $$ r1_3
  iintro r1_3
  iapply (st_dead2 c 3) $$ s2_3
  iintro %w s2_3
  iapply (st_store2 m c 3 rfl) $$ s2_3
  iintro s2_3
  iapply (st_send2 m K c 3 0 rfl (dev10_eq c)) $$ HA s2_3 d2_3
  iintro HA s2_3
  iapply Hk $$ HA r1_3 s1_3 s2_3

theorem part35 (v4 : BitVec 32)
    {k : (PUnit) → Prog (TpuEff nD τ sig (Elt F) Λ₀ .tc) α} :
    ⊢ iprop(acct m K c 0 -∗ s2Mid c 0 -∗ r2In c 0 -∗ outP m c 0 -∗ s2Mid c 1 -∗ (acct m K c 0 -∗ s2Done m c 0 -∗ r2Done m c 0 -∗ outP m c 1 -∗ s2Done m c 1 -∗ wpp c (k ⟨⟩) Q)
      -∗ wpp c (k0_part35 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v4 >>= k) Q) := by
  iintro HA s2_0 r2_0 HO s2_1 Hk
  rw [k0_part35_eq_skeleton]
  unfold k0_part35_skel
  simp only [Prog.lift, Prog.bind_op, Prog.bind_ret, Prog.pure_eq_ret]
  iapply (st_waitS2 m K c 0 0) $$ HA s2_0
  iintro HA s2_0
  iapply (st_waitR2 m K c 0) $$ HA r2_0
  iintro HA r2_0
  iapply (st_load2 m c 0) $$ s2_0
  iintro s2_0
  iapply (st_loadR2 m c 0) $$ r2_0
  iintro r2_0
  iapply (wp_deadOut m c 0) $$ HO
  iintro %w HO
  iapply (st_out m c 0 0 1 rfl rfl rfl) $$ HO
  iintro HO
  iapply (st_waitS2 m K c 1 0) $$ HA s2_1
  iintro HA s2_1
  iapply Hk $$ HA s2_0 r2_0 HO s2_1

theorem part36 (v4 : BitVec 32)
    {k : (PUnit) → Prog (TpuEff nD τ sig (Elt F) Λ₀ .tc) α} :
    ⊢ iprop(acct m K c 0 -∗ r2In c 1 -∗ s2Done m c 1 -∗ outP m c 1 -∗ s2Mid c 2 -∗ (acct m K c 0 -∗ r2Done m c 1 -∗ s2Done m c 1 -∗ outP m c 2 -∗ s2Done m c 2 -∗ wpp c (k ⟨⟩) Q)
      -∗ wpp c (k0_part36 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v4 >>= k) Q) := by
  iintro HA r2_1 s2_1 HO s2_2 Hk
  rw [k0_part36_eq_skeleton]
  unfold k0_part36_skel
  simp only [Prog.lift, Prog.bind_op, Prog.bind_ret, Prog.pure_eq_ret]
  iapply (st_waitR2 m K c 1) $$ HA r2_1
  iintro HA r2_1
  iapply (st_load2 m c 1) $$ s2_1
  iintro s2_1
  iapply (st_loadR2 m c 1) $$ r2_1
  iintro r2_1
  iapply (wp_deadOut m c 1) $$ HO
  iintro %w HO
  iapply (st_out m c 1 1 2 rfl rfl rfl) $$ HO
  iintro HO
  iapply (st_waitS2 m K c 2 0) $$ HA s2_2
  iintro HA s2_2
  iapply Hk $$ HA r2_1 s2_1 HO s2_2

theorem part37 (v4 : BitVec 32)
    {k : (PUnit) → Prog (TpuEff nD τ sig (Elt F) Λ₀ .tc) α} :
    ⊢ iprop(acct m K c 0 -∗ r2In c 2 -∗ s2Done m c 2 -∗ outP m c 2 -∗ s2Mid c 3 -∗ (acct m K c 0 -∗ r2Done m c 2 -∗ s2Done m c 2 -∗ outP m c 3 -∗ s2Done m c 3 -∗ wpp c (k ⟨⟩) Q)
      -∗ wpp c (k0_part37 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 v4 >>= k) Q) := by
  iintro HA r2_2 s2_2 HO s2_3 Hk
  rw [k0_part37_eq_skeleton]
  unfold k0_part37_skel
  simp only [Prog.lift, Prog.bind_op, Prog.bind_ret, Prog.pure_eq_ret]
  iapply (st_waitR2 m K c 2) $$ HA r2_2
  iintro HA r2_2
  iapply (st_load2 m c 2) $$ s2_2
  iintro s2_2
  iapply (st_loadR2 m c 2) $$ r2_2
  iintro r2_2
  iapply (wp_deadOut m c 2) $$ HO
  iintro %w HO
  iapply (st_out m c 2 2 3 rfl rfl rfl) $$ HO
  iintro HO
  iapply (st_waitS2 m K c 3 0) $$ HA s2_3
  iintro HA s2_3
  iapply Hk $$ HA r2_2 s2_2 HO s2_3

theorem part38
    {k : (PUnit) → Prog (TpuEff nD τ sig (Elt F) Λ₀ .tc) α} :
    ⊢ iprop(acct m K c 0 -∗ r2In c 3 -∗ s2Done m c 3 -∗ outP m c 3 -∗ s1Mid m c 0 -∗ s1Mid m c 1 -∗ (acct m K c 0 -∗ r2Done m c 3 -∗ s2Done m c 3 -∗ outP m c 4 -∗ s1Done m c 0 -∗ s1Done m c 1 -∗ wpp c (k ⟨⟩) Q)
      -∗ wpp c (k0_part38 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11  >>= k) Q) := by
  iintro HA r2_3 s2_3 HO s1_0 s1_1 Hk
  rw [k0_part38_eq_skeleton]
  unfold k0_part38_skel
  simp only [Prog.lift, Prog.bind_op, Prog.bind_ret, Prog.pure_eq_ret]
  iapply (st_waitR2 m K c 3) $$ HA r2_3
  iintro HA r2_3
  iapply (st_load2 m c 3) $$ s2_3
  iintro s2_3
  iapply (st_loadR2 m c 3) $$ r2_3
  iintro r2_3
  iapply (wp_deadOut m c 3) $$ HO
  iintro %w HO
  iapply (st_out m c 3 3 4 rfl rfl rfl) $$ HO
  iintro HO
  iapply (st_waitS1 m K c 0 0) $$ HA s1_0
  iintro HA s1_0
  iapply (st_waitS1 m K c 1 0) $$ HA s1_1
  iintro HA s1_1
  iapply Hk $$ HA r2_3 s2_3 HO s1_0 s1_1

end Cert.AttnProof

end
-- ==== Proof.Attn.Body.lean ====
/-
  The kernel's whole body on one device: from the stages at its start to those at its end.
-/
module

public import proofs.«01_k».proof.Proof.Attn.PartsA
public import proofs.«01_k».proof.Proof.Attn.PartsB

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- The slots of a buffer are the whole of it. -/
theorem slots_univ (b : Memref sig .tc .vmem S4x64x1024 .f32) (hb : b.view.set = Finset.univ) :
    (Finset.univ.biUnion (β := b.view.ty.Idx) fun q : Fin 4 => (slot b q).view.set) = Finset.univ := by
  refine Finset.eq_univ_of_forall fun i => ?_
  have hi : i ∈ b.view.set := hb ▸ Finset.mem_univ _
  obtain ⟨j, hj, rfl⟩ := Finset.mem_map.mp hi
  obtain ⟨q, a, e, rfl⟩ := ex_slots j
  refine Finset.mem_biUnion.mpr ⟨q, Finset.mem_univ _, ?_⟩
  rw [slot_set]
  exact Finset.mem_map_of_mem _ ((mem_slR q _).mpr rfl)
theorem r1_split (c : Dev nD) (f : S4x64x1024.Idx → Elt F .f32) :
    (r1W c f : sProp 𝕄) = bigSep Finset.univ fun q : Fin 4 => r1P c q f := by
  have h := pointsTo_biUnion (Val := Elt F) (Ix := Unit) (Name := ℕ) (U := UU) (Lvl := ℕ) (ℓ := (c : Thread nD τ).loc cc0_scratch5) (q := fullShare) (f := f) Finset.univ
    (fun q : Fin 4 => ((slot r1M q).view.set : Finset S4x64x1024.Idx)) (fun q _ q' _ hne => slot_disjoint hne r1M)
  refine Eq.trans ?_ h
  unfold r1W
  exact congrArg (fun S : Finset S4x64x1024.Idx => (((c : Thread nD τ).loc cc0_scratch5) ↦[S]{fullShare} f : sProp 𝕄)) (slots_univ r1M (View.set_whole _)).symm
theorem r2_split (c : Dev nD) (f : S4x64x1024.Idx → Elt F .f32) :
    (r2W c f : sProp 𝕄) = bigSep Finset.univ fun q : Fin 4 => r2P c q f := by
  have h := pointsTo_biUnion (Val := Elt F) (Ix := Unit) (Name := ℕ) (U := UU) (Lvl := ℕ) (ℓ := (c : Thread nD τ).loc cc0_scratch7) (q := fullShare) (f := f) Finset.univ
    (fun q : Fin 4 => ((slot r2M q).view.set : Finset S4x64x1024.Idx)) (fun q _ q' _ hne => slot_disjoint hne r2M)
  refine Eq.trans ?_ h
  unfold r2W
  exact congrArg (fun S : Finset S4x64x1024.Idx => (((c : Thread nD τ).loc cc0_scratch7) ↦[S]{fullShare} f : sProp 𝕄)) (slots_univ r2M (View.set_whole _)).symm

/-- A separating product over four, and over eight, written out. -/
theorem four (P : Fin 4 → sProp 𝕄) : bigSep Finset.univ P = iprop(P 0 ∗ P 1 ∗ P 2 ∗ P 3) := by
  rw [bigSep_univ_eq_bigSepL [0, 1, 2, 3] (by decide) (by decide)]
  simp only [bigSepL_cons_cons, bigSepL_singleton]
  rfl
theorem eight (P : Fin 8 → sProp 𝕄) : bigSep Finset.univ P = iprop(P 0 ∗ P 1 ∗ P 2 ∗ P 3 ∗ P 4 ∗ P 5 ∗ P 6 ∗ P 7) := by
  rw [bigSep_univ_eq_bigSepL [0, 1, 2, 3, 4, 5, 6, 7] (by decide) (by decide)]
  simp only [bigSepL_cons_cons, bigSepL_singleton]
  rfl

/-- A partner's landing buffer, by slots. -/
theorem d1_all (c : Dev nD) : iprop(∃ f, r1W (p1 c) f) ⊢ (iprop(d1 c 0 ∗ d1 c 1 ∗ d1 c 2 ∗ d1 c 3) : sProp 𝕄) := by
  unfold d1
  iintro ⟨%f, H⟩
  ihave H := (Entails.of_eq ((r1_split (p1 c) f).trans (four _))) $$ H
  icases H with ⟨H0, H1, H2, H3⟩
  isplitl [H0]; · iexists f; iexact H0
  isplitl [H1]; · iexists f; iexact H1
  isplitl [H2]; · iexists f; iexact H2
  iexists f; iexact H3
theorem d2_all (c : Dev nD) : iprop(∃ f, r2W (p2 c) f) ⊢ (iprop(d2 c 0 ∗ d2 c 1 ∗ d2 c 2 ∗ d2 c 3) : sProp 𝕄) := by
  unfold d2
  iintro ⟨%f, H⟩
  ihave H := (Entails.of_eq ((r2_split (p2 c) f).trans (four _))) $$ H
  icases H with ⟨H0, H1, H2, H3⟩
  isplitl [H0]; · iexists f; iexact H0
  isplitl [H1]; · iexists f; iexact H1
  isplitl [H2]; · iexists f; iexact H2
  iexists f; iexact H3

/-- The heads at the start; the slots of both exchanges at the start and at the end. -/
def KVIn (c : Dev nD) : sProp 𝕄 := bigSep Finset.univ fun h : Fin 8 => iprop(kIn m c h ∗ vIn m c h)
def XIn (c : Dev nD) : sProp 𝕄 := bigSep Finset.univ fun q : Fin 4 => iprop(s1In c q ∗ r1In c q ∗ s2In c q ∗ r2In c q)
def XDone (c : Dev nD) : sProp 𝕄 := bigSep Finset.univ fun q : Fin 4 => iprop(s1Done m c q ∗ r1Done m c q ∗ s2Done m c q ∗ r2Done m c q)

/-- The arrived heads together. -/
theorem KV_all (c : Dev nD) : iprop((kDone m c 0 ∗ vDone m c 0) ∗ (kDone m c 1 ∗ vDone m c 1) ∗ (kDone m c 2 ∗ vDone m c 2) ∗ (kDone m c 3 ∗ vDone m c 3) ∗ (kDone m c 4 ∗ vDone m c 4) ∗ (kDone m c 5 ∗ vDone m c 5) ∗ (kDone m c 6 ∗ vDone m c 6) ∗ (kDone m c 7 ∗ vDone m c 7)) ⊢ (KV m c : sProp 𝕄) := by
  unfold KV
  rw [eight]

variable (K : Dev nD × Fin 33 → ℕ) (c : Dev nD) {α : Type} {Q : α → sProp (MT nD τ sig Unit (Elt F) ℕ UU ℕ)}

/-- The barrier with both partners, and the first head's copies. -/
theorem part1 {k : (Σ' (d0 : Dev nD) (v2 : BitVec 32) (v3 : BitVec 32) (v4 : BitVec 32), BitVec 32) → Prog (TpuEff nD τ sig (Elt F) Λ₀ .tc) α} :
    ⊢ iprop(acct m K c 10 -∗ barIn c -∗ kIn m c 0 -∗ vIn m c 0
      -∗ (acct m K c 8 -∗ pos1 c barL -∗ (d1 c 0 ∗ d1 c 1 ∗ d1 c 2 ∗ d1 c 3) -∗ (d2 c 0 ∗ d2 c 1 ∗ d2 c 2 ∗ d2 c 3) -∗ kMid c 0 -∗ vMid c 0
          -∗ wpp c (k ⟨c, (Scalar.remsi (Scalar.divsi (Dev.word c) 1#32) 4#32), (Scalar.xori (Scalar.remsi (Scalar.divsi (Dev.word c) 1#32) 4#32) 1#32), (Scalar.subi 3#32 (Scalar.remsi (Scalar.divsi (Dev.word c) 1#32) 4#32)), (Scalar.muli (Scalar.remsi (Scalar.divsi (Dev.word c) 1#32) 4#32) 8#32)⟩) Q)
      -∗ wpp c (k0_part1 xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 >>= k) Q) := by
  unfold barIn
  iintro HA ⟨T1, B1, T2, B2, Hc, Hp⟩ k_0 v_0 Hk
  rw [k0_part1_eq_skeleton]
  unfold k0_part1_skel
  simp only [semSignalWord, semWaitWord, Prog.lift, Prog.bind_op, Prog.bind_ret, Prog.pure_eq_ret, wp_deviceId]
  iapply (wp_signal1 m K c (dev1_eq c)) $$ HA T1 B1
  iintro HA
  iapply (wp_signal2 m K c (dev2_eq c)) $$ HA T2 B2
  iintro HA
  iapply (wp_waitBar m K c) $$ HA Hc Hp
  iintro HA Hp D1 D2
  ihave D1 := (d1_all c) $$ D1
  ihave D2 := (d2_all c) $$ D2
  iapply (st_copyK m K c 0 8) $$ HA k_0
  iintro HA k_0
  iapply (st_copyV m K c 0 8) $$ HA v_0
  iintro HA v_0
  iapply Hk $$ HA Hp D1 D2 k_0 v_0

/-- The body: every head arrives, every slot goes over and comes back, and the result's four row blocks are the sums. -/
theorem body {k : PUnit.{1} → Prog (TpuEff nD τ sig (Elt F) Λ₀ .tc) α} :
    ⊢ iprop(acct m K c 10 -∗ barIn c -∗ roW m c -∗ outP m c 0 -∗ KVIn m c -∗ XIn c
      -∗ (acct m K c 0 -∗ pos1 c barL -∗ roW m c -∗ outP m c 4 -∗ KV m c -∗ XDone m c -∗ wpp c (k ⟨⟩) Q)
      -∗ wpp c (cc0_body xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11 >>= k) Q) := by
  unfold KVIn XIn XDone
  rw [eight, four, four]
  iintro HA HB HR HO ⟨⟨k_0, v_0⟩, ⟨k_1, v_1⟩, ⟨k_2, v_2⟩, ⟨k_3, v_3⟩, ⟨k_4, v_4⟩, ⟨k_5, v_5⟩, ⟨k_6, v_6⟩, ⟨k_7, v_7⟩⟩ ⟨⟨s1_0, r1_0, s2_0, r2_0⟩, ⟨s1_1, r1_1, s2_1, r2_1⟩, ⟨s1_2, r1_2, s2_2, r2_2⟩, ⟨s1_3, r1_3, s2_3, r2_3⟩⟩ Hk
  rw [cc0_body_eq_skeleton]
  unfold cc0_body_skel
  rw [k0_part39_eq_skeleton]
  unfold k0_part39_skel
  simp only [Prog.lift, Prog.bind_op, Prog.bind_ret, Prog.pure_eq_ret, bind_assoc]
  iapply (part1 m K c) $$ HA HB k_0 v_0
  iintro HA HB ⟨d1_0, d1_1, d1_2, d1_3⟩ ⟨d2_0, d2_1, d2_2, d2_3⟩ k_0 v_0
  iapply (part2 m K c _ _) $$ HA k_1 v_1 k_2
  iintro HA k_1 v_1 k_2
  iapply (part3 m K c _) $$ HA v_2 k_3 v_3 k_4
  iintro HA v_2 k_3 v_3 k_4
  iapply (part4 m K c _) $$ HA v_4 k_5 v_5 k_6
  iintro HA v_4 k_5 v_5 k_6
  iapply (part5 m K c _) $$ HA v_6 k_7 v_7
  iintro HA v_6 k_7 v_7
  iapply (part6 c _ _ _ _ _ _)
  iapply (part7 c _ _ _)
  iapply (part8 c _ _ _ _ _ _ _)
  iapply (part9 m K c _) $$ HA HR k_0 v_0
  iintro HA HR k_0 v_0
  iapply (part10 m K c _ _ _ _ _ _) $$ HA HR k_1 v_1
  iintro HA HR k_1 v_1
  iapply (part11 m K c _ _ _ _ _ _ _) $$ HA HR k_2 v_2
  iintro HA HR k_2 v_2
  iapply (part12 m K c _ _ _ _ _) $$ HA HR k_3 v_3
  iintro HA HR k_3 v_3
  iapply (part13 m K c _ _ _ _) $$ HA HR k_4 v_4
  iintro HA HR k_4 v_4
  iapply (part14 m K c _ _ _ _ _) $$ HA k_5 v_5 HR
  iintro HA k_5 v_5 HR
  iapply (part15 m K c _ _ _ _ _ _) $$ HA k_6 v_6 HR
  iintro HA k_6 v_6 HR
  iapply (part16 m K c _ _ _) $$ HA k_7 v_7 HR
  iintro HA k_7 v_7 HR
  ihave HK := (KV_all m c) $$ [k_0 v_0 k_1 v_1 k_2 v_2 k_3 v_3 k_4 v_4 k_5 v_5 k_6 v_6 k_7 v_7]
  · iframe
  iapply (part17 m K c _ _ _ (acc0 (xC m c) (wqC m c) (rdHd (kC m c)) (rdHd (vC m c)) (rdWo (woC m c))) rfl) $$ HA s1_0 d1_0 HK HR
  iintro HA s1_0 HK HR
  iapply (part18 m c _ _ _ _) $$ HK HR
  iintro HK HR
  iapply (part19 m c _ _ _ _) $$ HK HR
  iintro HK HR
  iapply (part20 m c _ _ _ _) $$ HK HR
  iintro HK HR
  iapply (part21 m K c _ _ _ _ rfl) $$ HA HK HR s1_1 d1_1
  iintro HA HK HR s1_1
  iapply (part22 m K c _ _ _) $$ HA r1_0 s1_0 s2_0 d2_0
  iintro HA r1_0 s1_0 s2_0
  iapply (part23 m c _ _ _ _) $$ HK HR
  iintro HK HR
  iapply (part24 m c _ _ _ _) $$ HK HR
  iintro HK HR
  iapply (part25 m c _ _ _ _) $$ HK HR
  iintro HK HR
  iapply (part26 m c _ _ _ _) $$ HK HR s1_2
  iintro %w HK HR s1_2
  iapply (part27 m K c _ (acc2 (xC m c) (wqC m c) (rdHd (kC m c)) (rdHd (vC m c)) (rdWo (woC m c))) _ rfl) $$ HA s1_2 d1_2 r1_1 s1_1 s2_1
  iintro HA s1_2 r1_1 s1_1 s2_1
  iapply (part28 m K c _ _ _ _ rfl) $$ HA s2_1 d2_1 HK HR
  iintro HA s2_1 HK HR
  iapply (part29 m c _ _ _ _ _) $$ HK HR
  iintro HK HR
  iapply (part30 m c _ _ _ _ _) $$ HK HR
  iintro HK HR
  iapply (part31 m c _ _ _ _ _) $$ HK HR
  iintro HK HR
  iapply (part32 m K c _ _ _ _ _ rfl) $$ HA HK HR s1_3 d1_3
  iintro HA HK HR s1_3
  iapply (part33 m K c _ _) $$ HA r1_2 s1_2 s2_2 d2_2
  iintro HA r1_2 s1_2 s2_2
  iapply (part34 m K c _) $$ HA r1_3 s1_3 s2_3 d2_3
  iintro HA r1_3 s1_3 s2_3
  iapply (part35 m K c _) $$ HA s2_0 r2_0 HO s2_1
  iintro HA s2_0 r2_0 HO s2_1
  iapply (part36 m K c _) $$ HA r2_1 s2_1 HO s2_2
  iintro HA r2_1 s2_1 HO s2_2
  iapply (part37 m K c _) $$ HA r2_2 s2_2 HO s2_3
  iintro HA r2_2 s2_2 HO s2_3
  iapply (part38 m K c) $$ HA r2_3 s2_3 HO s1_0 s1_1
  iintro HA r2_3 s2_3 HO s1_0 s1_1
  iapply (st_waitS1 m K c 2 0) $$ HA s1_2
  iintro HA s1_2
  iapply (st_waitS1 m K c 3 0) $$ HA s1_3
  iintro HA s1_3
  iapply Hk $$ HA HB HR HO HK
  iframe

end Cert.AttnProof

end
-- ==== Proof.Attn.Split.lean ====
/-
  The buffers of a device cut into what its stages hold: the exchange buffers into four slots, the keys' and values'
  scratch buffers into eight heads, the keys' and values' arrays into the eight slices read and a rest.
-/
module

public import proofs.«01_k».proof.Proof.Attn.Body

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

theorem s1_split (c : Dev nD) (f : S4x64x1024.Idx → Elt F .f32) :
    (((c : Thread nD τ).loc cc0_scratch4) ↦{fullShare} f : sProp 𝕄) = bigSep Finset.univ fun q : Fin 4 => s1P c q fullShare f := by
  have h := pointsTo_biUnion (Val := Elt F) (Ix := Unit) (Name := ℕ) (U := UU) (Lvl := ℕ) (ℓ := (c : Thread nD τ).loc cc0_scratch4) (q := fullShare) (f := f) Finset.univ
    (fun q : Fin 4 => ((slot s1M q).view.set : Finset S4x64x1024.Idx)) (fun q _ q' _ hne => slot_disjoint hne s1M)
  refine Eq.trans ?_ h
  exact congrArg (fun S : Finset S4x64x1024.Idx => (((c : Thread nD τ).loc cc0_scratch4) ↦[S]{fullShare} f : sProp 𝕄)) (slots_univ s1M (View.set_whole _)).symm
theorem s2_split (c : Dev nD) (f : S4x64x1024.Idx → Elt F .f32) :
    (((c : Thread nD τ).loc cc0_scratch6) ↦{fullShare} f : sProp 𝕄) = bigSep Finset.univ fun q : Fin 4 => s2P c q f := by
  have h := pointsTo_biUnion (Val := Elt F) (Ix := Unit) (Name := ℕ) (U := UU) (Lvl := ℕ) (ℓ := (c : Thread nD τ).loc cc0_scratch6) (q := fullShare) (f := f) Finset.univ
    (fun q : Fin 4 => ((slot s2M q).view.set : Finset S4x64x1024.Idx)) (fun q _ q' _ hne => slot_disjoint hne s2M)
  refine Eq.trans ?_ h
  exact congrArg (fun S : Finset S4x64x1024.Idx => (((c : Thread nD τ).loc cc0_scratch6) ↦[S]{fullShare} f : sProp 𝕄)) (slots_univ s2M (View.set_whole _)).symm
/-- The heads of a scratch buffer are the whole of it. -/
theorem heads_univ (b : Memref sig .tc .vmem S8x4096x128 .f32) (hb : b.view.set = Finset.univ) :
    (Finset.univ.biUnion (β := b.view.ty.Idx) fun h : Fin 8 => (hd b h).view.set) = Finset.univ := by
  refine Finset.eq_univ_of_forall fun i => ?_
  have hi : i ∈ b.view.set := hb ▸ Finset.mem_univ _
  obtain ⟨j, hj, rfl⟩ := Finset.mem_map.mp hi
  have key : ∀ h : Fin 8, j 0 = h → b.view.emb j ∈ (hd b h).view.set := fun h e => by
    rw [hd_set]; exact Finset.mem_map_of_mem _ ((mem_hdR h j).mpr e)
  exact Finset.mem_biUnion.mpr ⟨j 0, Finset.mem_univ _, key _ rfl⟩
theorem k_split (c : Dev nD) (f : S8x4096x128.Idx → Elt F .f32) :
    (((c : Thread nD τ).loc cc0_scratch0) ↦{fullShare} f : sProp 𝕄) = bigSep Finset.univ fun h : Fin 8 => kP c h f := by
  have h := pointsTo_biUnion (Val := Elt F) (Ix := Unit) (Name := ℕ) (U := UU) (Lvl := ℕ) (ℓ := (c : Thread nD τ).loc cc0_scratch0) (q := fullShare) (f := f) Finset.univ
    (fun h : Fin 8 => ((hd kM h).view.set : Finset S8x4096x128.Idx)) (fun q _ q' _ hne => hd_disjoint hne kM)
  refine Eq.trans ?_ h
  exact congrArg (fun S : Finset S8x4096x128.Idx => (((c : Thread nD τ).loc cc0_scratch0) ↦[S]{fullShare} f : sProp 𝕄)) (heads_univ kM (View.set_whole _)).symm
theorem v_split (c : Dev nD) (f : S8x4096x128.Idx → Elt F .f32) :
    (((c : Thread nD τ).loc cc0_scratch1) ↦{fullShare} f : sProp 𝕄) = bigSep Finset.univ fun h : Fin 8 => vP c h f := by
  have h := pointsTo_biUnion (Val := Elt F) (Ix := Unit) (Name := ℕ) (U := UU) (Lvl := ℕ) (ℓ := (c : Thread nD τ).loc cc0_scratch1) (q := fullShare) (f := f) Finset.univ
    (fun h : Fin 8 => ((hd vM h).view.set : Finset S8x4096x128.Idx)) (fun q _ q' _ hne => hd_disjoint hne vM)
  refine Eq.trans ?_ h
  exact congrArg (fun S : Finset S8x4096x128.Idx => (((c : Thread nD τ).loc cc0_scratch1) ↦[S]{fullShare} f : sProp 𝕄)) (heads_univ vM (View.set_whole _)).symm
/-- The part of device `c`'s keys' array that its eight slices leave out. -/
def keyOff (c : Dev nD) : Finset S1x4096x32x128.Idx :=
  Finset.univ \ Finset.univ.biUnion fun h : Fin 8 => ((src keyM c h).view.set : Finset S1x4096x32x128.Idx)
def keyRest (c : Dev nD) (f : S1x4096x32x128.Idx → Elt F .f32) : sProp 𝕄 := ((c : Thread nD τ).loc main_arg2) ↦[keyOff c]{fullShare} f
theorem key_split (c : Dev nD) (f : S1x4096x32x128.Idx → Elt F .f32) :
    (((c : Thread nD τ).loc main_arg2) ↦{fullShare} f : sProp 𝕄) = iprop((bigSep Finset.univ fun h : Fin 8 => keyP c h f) ∗ keyRest c f) := by
  have h := pointsTo_biUnion (Val := Elt F) (Ix := Unit) (Name := ℕ) (U := UU) (Lvl := ℕ) (ℓ := (c : Thread nD τ).loc main_arg2) (q := fullShare) (f := f) Finset.univ
    (fun h : Fin 8 => ((src keyM c h).view.set : Finset S1x4096x32x128.Idx)) (fun q _ q' _ hne => src_disjoint c hne keyM)
  have h2 := pointsTo_split_subset (Val := Elt F) (Ix := Unit) (Name := ℕ) (U := UU) (Lvl := ℕ) (ℓ := (c : Thread nD τ).loc main_arg2) (q := fullShare) (f := f)
    (Finset.subset_univ (Finset.univ.biUnion fun h : Fin 8 => ((src keyM c h).view.set : Finset S1x4096x32x128.Idx)))
  exact (equiv_iff.mp ⟨h2.1, h2.2⟩).trans (congrArg (fun P : sProp 𝕄 => iprop(P ∗ keyRest c f)) h)
/-- The part of device `c`'s values' array that its eight slices leave out. -/
def valOff (c : Dev nD) : Finset S1x4096x32x128.Idx :=
  Finset.univ \ Finset.univ.biUnion fun h : Fin 8 => ((src valM c h).view.set : Finset S1x4096x32x128.Idx)
def valRest (c : Dev nD) (f : S1x4096x32x128.Idx → Elt F .f32) : sProp 𝕄 := ((c : Thread nD τ).loc main_arg3) ↦[valOff c]{fullShare} f
theorem val_split (c : Dev nD) (f : S1x4096x32x128.Idx → Elt F .f32) :
    (((c : Thread nD τ).loc main_arg3) ↦{fullShare} f : sProp 𝕄) = iprop((bigSep Finset.univ fun h : Fin 8 => valP c h f) ∗ valRest c f) := by
  have h := pointsTo_biUnion (Val := Elt F) (Ix := Unit) (Name := ℕ) (U := UU) (Lvl := ℕ) (ℓ := (c : Thread nD τ).loc main_arg3) (q := fullShare) (f := f) Finset.univ
    (fun h : Fin 8 => ((src valM c h).view.set : Finset S1x4096x32x128.Idx)) (fun q _ q' _ hne => src_disjoint c hne valM)
  have h2 := pointsTo_split_subset (Val := Elt F) (Ix := Unit) (Name := ℕ) (U := UU) (Lvl := ℕ) (ℓ := (c : Thread nD τ).loc main_arg3) (q := fullShare) (f := f)
    (Finset.subset_univ (Finset.univ.biUnion fun h : Fin 8 => ((src valM c h).view.set : Finset S1x4096x32x128.Idx)))
  exact (equiv_iff.mp ⟨h2.1, h2.2⟩).trans (congrArg (fun P : sProp 𝕄 => iprop(P ∗ valRest c f)) h)

end Cert.AttnProof

end
-- ==== Proof.Attn.Deal.lean ====
/-
  The launch's ghost state: the cells and tokens minted, the tokens dealt to the devices that pay with them, the cells'
  invariants allocated, and the credit each device starts with.
-/
module

public import proofs.«01_k».proof.Proof.Attn.Split
public import Idealize.ShloMosaic.Lib.Pipeline.BigSepL

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- A separating product over a device's cells, by families. -/
theorem families (Φ : Fin 33 → sProp 𝕄) : bigSep Finset.univ Φ
    = iprop((bigSep Finset.univ fun h : Fin 8 => Φ (kI h)) ∗ (bigSep Finset.univ fun h : Fin 8 => Φ (vI h)) ∗ (bigSep Finset.univ fun q : Fin 4 => Φ (s1I q)) ∗ (bigSep Finset.univ fun q : Fin 4 => Φ (r1I q)) ∗ (bigSep Finset.univ fun q : Fin 4 => Φ (s2I q)) ∗ (bigSep Finset.univ fun q : Fin 4 => Φ (r2I q)) ∗ Φ bI) := by
  rw [bigSep_univ_eq_bigSepL ([kI 0, kI 1, kI 2, kI 3, kI 4, kI 5, kI 6, kI 7] ++ ([vI 0, vI 1, vI 2, vI 3, vI 4, vI 5, vI 6, vI 7]
      ++ ([s1I 0, s1I 1, s1I 2, s1I 3] ++ ([r1I 0, r1I 1, r1I 2, r1I 3] ++ ([s2I 0, s2I 1, s2I 2, s2I 3] ++ ([r2I 0, r2I 1, r2I 2, r2I 3] ++ [bI]))))))
      (by decide) (by decide)]
  rw [bigSepL_append, bigSepL_append, bigSepL_append, bigSepL_append, bigSepL_append, bigSepL_append, eight, eight, four, four, four, four]
  simp only [bigSepL_cons_cons, bigSepL_singleton]
  rfl

/-- A device's cells, each with something at its semaphore, by families. -/
theorem cells_families (Ψ : SemLoc sig → sProp 𝕄) : (bigSep Finset.univ fun k : Fin 33 => Ψ (csem k))
    = iprop((bigSep Finset.univ fun h : Fin 8 => Ψ (kL h)) ∗ (bigSep Finset.univ fun h : Fin 8 => Ψ (vL h)) ∗ (bigSep Finset.univ fun q : Fin 4 => Ψ (s1L q)) ∗ (bigSep Finset.univ fun q : Fin 4 => Ψ (r1L q)) ∗ (bigSep Finset.univ fun q : Fin 4 => Ψ (s2L q)) ∗ (bigSep Finset.univ fun q : Fin 4 => Ψ (r2L q)) ∗ Ψ barL) := by
  rw [families]
  simp only [csem_k, csem_v, csem_s1, csem_r1, csem_s2, csem_r2, csem_b]

/-- The kernel's own semaphores: its transfers' cells. -/
abbrev osem (k : Fin 32) : SemLoc sig := .dma ⟨k.val + 4, by show k.val + 4 < 36; omega⟩

theorem ownSemFacts : Pipeline.OwnSemFacts cfg0.spec osem := by decide

theorem cells_last (Φ : Fin 33 → sProp 𝕄) : bigSep Finset.univ Φ = iprop((bigSep Finset.univ fun k : Fin 32 => Φ k.castSucc) ∗ Φ bI) := by
  rw [Fin.univ_castSuccEmb, Finset.cons_eq_insert, BI.bigSep_insert (fun h => by
    obtain ⟨x, -, hx⟩ := Finset.mem_map.mp h
    exact absurd (congrArg Fin.val hx) (Nat.ne_of_lt x.isLt)), bigSep_map]
  exact equiv_iff.mp ⟨BI.sep_comm, BI.sep_comm⟩

theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := by
    have hv : ∀ k : Fin 33, semIx (csem k) = if k.val < 32 then k.val + 4 else 100 := by decide
    have e := (hv k).symm.trans ((congrArg semIx h2).trans (hv k'))
    have := k.isLt; have := k'.isLt
    refine Fin.ext ?_
    split at e <;> split at e <;> omega
  subst h3; rfl

/-- The cells the launch sets up, and the tokens it mints for them: one for each, a second for each barrier. -/
def cellSet : Finset (GSem nD τ sig) := Finset.univ.map ⟨kcell, kcell_injective⟩
def tokA : Finset (GSem nD τ sig × ℕ × Bool) :=
  Finset.univ.map ⟨fun ck : Dev nD × Fin 33 => (kcell ck, 0, false), fun a b h => kcell_injective (congrArg Prod.fst h)⟩
def tokB : Finset (GSem nD τ sig × ℕ × Bool) :=
  Finset.univ.map ⟨fun c : Dev nD => (cellAt c barL, 0, true), fun a b h => congrArg (fun x : GSem nD τ sig × ℕ × Bool => x.1.1.1) h⟩
theorem tok_disjoint : Disjoint tokA tokB := by
  rw [Finset.disjoint_left]
  intro x hA hB
  obtain ⟨a, -, rfl⟩ := Finset.mem_map.mp hA
  obtain ⟨b, -, hb⟩ := Finset.mem_map.mp hB
  exact Bool.noConfusion (congrArg (fun x : GSem nD τ sig × ℕ × Bool => x.2.2) hb)
def tokSet : Finset (GSem nD τ sig × ℕ × Bool) := tokA ∪ tokB

def u₀ : UU :=
  (initOf (Pipeline.cells cfgs cellOf_inj) (Pipeline.launchToks cfgs cellOf_inj), initOf cellSet tokSet)

/-- The tokens of device `c`'s own cells. -/
def toks (c : Dev nD) : sProp 𝕄 := iprop((bigSep Finset.univ fun k : Fin 33 => tok c (csem k) false) ∗ tok c barL true)

/-- The tokens device `c` pays with. -/
def payToks (c : Dev nD) : sProp 𝕄 :=
  iprop(((bigSep Finset.univ fun h : Fin 8 => tok c (kL h) false) ∗ (bigSep Finset.univ fun h : Fin 8 => tok c (vL h) false)
      ∗ (bigSep Finset.univ fun q : Fin 4 => tok c (s1L q) false) ∗ (bigSep Finset.univ fun q : Fin 4 => tok (p1 c) (r1L q) false)
      ∗ (bigSep Finset.univ fun q : Fin 4 => tok c (s2L q) false) ∗ (bigSep Finset.univ fun q : Fin 4 => tok (p2 c) (r2L q) false)
      ∗ tok (p1 c) barL false) ∗ tok (p2 c) barL true)

/-- Device `c`'s positions at round 0 of its cells. -/
def posAll (c : Dev nD) : sProp 𝕄 := bigSep Finset.univ fun k : Fin 33 => pos0 c (csem k)

/-- What the launch deals device `c`, and what the global step makes of it. -/
def G (c : Dev nD) : sProp 𝕄 :=
  iprop((bigSep Finset.univ fun k : Fin 33 => roundState ER (rd m) (kcell (c, k)) 0)
    ∗ (bigSep Finset.univ fun k : Fin 33 => iprop(atPos ER (kcell (c, k)) 0 ∅ 0 ∗ reached ER (kcell (c, k)) 0)) ∗ toks c)
def G' (c : Dev nD) : sProp 𝕄 := iprop(∃ K, records m K ∗ posAll c ∗ payToks c)

theorem fund : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Fin 33 => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet toks
    rw [BI.bigSep_union tok_disjoint, bigSep_sep']
    unfold tokA tokB
    rw [bigSep_map, bigSep_map, bigSep_univ_prod]; rfl
  iintro HX
  imod (Rounds.fund ER (rd m) cellSet tokSet) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (cellAt c barL) 0 := by
  unfold unscopedSems0; rw [bigSep_eq_bigSepL_of_eq [barL] (by decide) (by decide)]; rfl

/-- The kernel's own semaphores and the barrier semaphore are the cells. -/
theorem sems0_eq (c : Dev nD) : (bigSep Finset.univ fun k : Fin 33 => semVal (kcell (c, k)) 0 : sProp 𝕄)
    = iprop(Pipeline.ownSems0 (Ix := Unit) (Name := ℕ) (U := UU) (Lvl := ℕ) (Val := Elt F) (τ := τ) osem c ∗ unscopedSems0 c) := by
  rw [unscopedSems0_eq, cells_last]
  unfold Pipeline.ownSems0
  have e : ∀ k : Fin 32, csem k.castSucc = osem k := by decide
  exact congrArg (fun P : sProp 𝕄 => iprop(P ∗ semVal (cellAt c barL) 0))
    (bigSep_congr fun k _ => congrArg (fun s => (semVal (cellAt c s) 0 : sProp 𝕄)) (e k))

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hos] <;> iassumption
  imod (show iprop((bigSep Finset.univ fun k : Fin 33 => semVal (kcell (c, k)) 0) ∗ bigSep Finset.univ fun k : Fin 33 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The partners as permutations of the devices. -/
def e1 : Dev nD ≃ Dev nD := ⟨p1, p1, p1_p1, p1_p1⟩
def e2 : Dev nD ≃ Dev nD := ⟨p2, p2, p2_p2, p2_p2⟩

/-- The tokens dealt: a barrier's first and a first-exchange landing cell's to the first partner, a barrier's second and a
    second-exchange landing cell's to the second. -/
theorem toks_around : (bigSep Finset.univ fun c : Dev nD => (toks c : sProp 𝕄)) ⊢ bigSep Finset.univ fun c : Dev nD => payToks c := by
  unfold toks payToks
  rw [bigSep_congr (s := Finset.univ) (fun (c : Dev nD) _ => congrArg (fun P : sProp 𝕄 => iprop(P ∗ tok c barL true)) (cells_families (F := F) fun s => tok c s false))]
  simp only [bigSep_sep']
  rw [bigSep_univ_equiv e1 (fun c : Dev nD => (bigSep Finset.univ fun q : Fin 4 => tok c (r1L q) false : sProp 𝕄)),
    bigSep_univ_equiv e2 (fun c : Dev nD => (bigSep Finset.univ fun q : Fin 4 => tok c (r2L q) false : sProp 𝕄)),
    bigSep_univ_equiv e1 (fun c : Dev nD => (tok c barL false : sProp 𝕄)),
    bigSep_univ_equiv e2 (fun c : Dev nD => (tok c barL true : sProp 𝕄))]
  exact Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 33 => iprop(∃ κ : ℕ, cellInv ER (rd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (rd m) κ (kcell ck) : sProp 𝕄))) $$ HI
  icases HK with ⟨%K, #HI⟩
  ihave Htk := (toks_around (F := F)) $$ Htok
  iapply (with_persistent (R := records m K) (Φ := fun c => iprop(posAll c ∗ payToks c)) fun c _ => show _ ⊢ G' m c from by
    unfold G'; iintro ⟨#H, Hl⟩; iexists K; isplitr; · iexact H
    iexact Hl)
  isplitr
  · unfold records; rw [bigSep_sep']; isplitl; · iexact HI
    iexact HR
  · rw [bigSep_sep']
    isplitl [Hat]; · unfold posAll; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What device `d` owes the cell of semaphore `s` on device `c` when `n` payments are left. -/
def owedTo (d c : Dev nD) (s : SemLoc sig) : ℕ → ℕ
  | 0 => 0
  | n + 1 => owedTo d c s n + if c = payDev d n ∧ s = paySem n then payAmt n else 0

theorem Oe_at (d c : Dev nD) (s : SemLoc sig) (n : ℕ) : Oe d n (cellAt c s) () = owedTo d c s n := by
  induction n with
  | zero => rfl
  | succ n ih =>
    unfold Oe owedTo
    rw [Pi.add_apply, Finsupp.add_apply, ih, tallyAt_apply]
    congr 1
    refine if_congr ⟨fun h => ⟨congrArg (fun g : GSem nD τ sig => g.1.1) h.1, congrArg Prod.snd h.1⟩, fun h => ⟨?_, rfl⟩⟩ rfl rfl
    rw [h.1, h.2]

theorem owed_bar (c : Dev nD) : (∑ d : Dev nD, owedTo d c barL 10) = 2 := by revert c; decide
theorem owed_r1 (c : Dev nD) (q : Fin 4) : (∑ d : Dev nD, owedTo d c (r1L q) 10) = NS := by revert c q; decide
theorem owed_r2 (c : Dev nD) (q : Fin 4) : (∑ d : Dev nD, owedTo d c (r2L q) 10) = NS := by revert c q; decide

/-- What every device owes at the start. -/
abbrev O₀ (c : Dev nD) : CellTallies nD τ sig Unit := Oe c 10

theorem launch_at (c : Dev nD) (s : SemLoc sig) (n : ℕ) (h : (∑ d : Dev nD, owedTo d c s 10) = n) :
    tallyOn (cellAt c s) (launchCredit (Pipeline.owing O₀) 0 (cellAt c s)) = (tallyAt (cellAt c s) () n : CellTallies nD τ sig Unit) := by
  unfold tallyAt; refine congrArg _ (Finsupp.ext fun u => ?_); cases u
  rw [Pipeline.launchCredit_owing, Finsupp.single_eq_same, Finset.sum_congr rfl fun d _ => Oe_at d c s 10, h]

/-- The credit device `c` starts with: two units at its barrier, a slot's bytes at each landing cell. -/
theorem creds (c : Dev nD) :
    (Pipeline.launchCred O₀ c : sProp 𝕄)
      ⊢ iprop(crd c barL 2 ∗ (bigSep Finset.univ fun q : Fin 4 => crd c (r1L q) NS) ∗ (bigSep Finset.univ fun q : Fin 4 => crd c (r2L q) NS)) := by
  unfold Pipeline.launchCred
  refine (BI.bigSep_subset (Finset.subset_univ ([barL, r1L 0, r1L 1, r1L 2, r1L 3, r2L 0, r2L 1, r2L 2, r2L 3].toFinset))).trans ?_
  have hb := launch_at c barL 2 (owed_bar c)
  have h1 := fun q => launch_at c (r1L q) NS (owed_r1 c q)
  have h2 := fun q => launch_at c (r2L q) NS (owed_r2 c q)
  have key : iprop(crd c barL 2 ∗ crd c (r1L 0) NS ∗ crd c (r1L 1) NS ∗ crd c (r1L 2) NS ∗ crd c (r1L 3) NS
        ∗ crd c (r2L 0) NS ∗ crd c (r2L 1) NS ∗ crd c (r2L 2) NS ∗ crd c (r2L 3) NS)
      ⊢ (iprop(crd c barL 2 ∗ (bigSep Finset.univ fun q : Fin 4 => crd c (r1L q) NS) ∗ (bigSep Finset.univ fun q : Fin 4 => crd c (r2L q) NS)) : sProp 𝕄) := by
    rw [four, four]
    iintro ⟨Hb, A0, A1, A2, A3, B0, B1, B2, B3⟩
    iframe
  refine Entails.trans (Entails.of_eq ?_) key
  rw [bigSep_eq_bigSepL_of_eq [barL, r1L 0, r1L 1, r1L 2, r1L 3, r2L 0, r2L 1, r2L 2, r2L 3] rfl (by decide)]
  simp only [bigSepL_cons_cons, bigSepL_singleton]
  unfold crd
  rw [← hb, ← h1, ← h1, ← h1, ← h1, ← h2, ← h2, ← h2, ← h2]
  rfl

end Cert.AttnProof

end
-- ==== Proof.Attn.Launch.lean ====
/-
  The launch: the pipeline's proof data, the body's obligation met from `body`, and the run of the whole program, each
  device's result array at the sum over all devices and every argument unchanged.
-/
module

public import proofs.«01_k».proof.Proof.Attn.Deal

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

/-! ## Families of stages -/

theorem some_each {I α : Type} (S : Finset I) (Φ : I → α → sProp 𝕄) (a : α) :
    bigSep S (fun i => Φ i a) ⊢ bigSep S (fun i => iprop(∃ a, Φ i a)) :=
  bigSep_mono fun i _ => show Φ i a ⊢ iprop(∃ a, Φ i a) from by iintro H; iexists a; iexact H

/-- The keys' and values' stages at the start, from the whole buffers. -/
theorem KVIn_intro (c : Dev nD) :
    iprop((bigSep Finset.univ fun h : Fin 8 => tok c (kL h) false) ∗ (bigSep Finset.univ fun h : Fin 8 => tok c (vL h) false)
      ∗ (bigSep Finset.univ fun h : Fin 8 => pos0 c (kL h)) ∗ (bigSep Finset.univ fun h : Fin 8 => pos0 c (vL h))
      ∗ (bigSep Finset.univ fun h : Fin 8 => keyP c h (keyC m c)) ∗ (bigSep Finset.univ fun h : Fin 8 => valP c h (valC m c))
      ∗ (∃ f : S8x4096x128.Idx → Elt F .f32, ((c : Thread nD τ).loc cc0_scratch0) ↦{fullShare} f)
      ∗ (∃ f : S8x4096x128.Idx → Elt F .f32, ((c : Thread nD τ).loc cc0_scratch1) ↦{fullShare} f))
      ⊢ KVIn m c := by
  unfold KVIn kIn vIn
  simp only [bigSep_sep']
  iintro ⟨T1, T2, P1, P2, S1, S2, ⟨%f, B1⟩, ⟨%g, B2⟩⟩
  ihave B1 := ((Entails.of_eq (k_split c f)).trans (some_each _ (fun h f => kP c h f) f)) $$ B1
  ihave B2 := ((Entails.of_eq (v_split c g)).trans (some_each _ (fun h f => vP c h f) g)) $$ B2
  iframe

/-- The exchanges' stages at the start. -/
theorem XIn_intro (c : Dev nD) :
    iprop((bigSep Finset.univ fun q : Fin 4 => tok c (s1L q) false) ∗ (bigSep Finset.univ fun q : Fin 4 => tok (p1 c) (r1L q) false)
      ∗ (bigSep Finset.univ fun q : Fin 4 => tok c (s2L q) false) ∗ (bigSep Finset.univ fun q : Fin 4 => tok (p2 c) (r2L q) false)
      ∗ (bigSep Finset.univ fun q : Fin 4 => pos0 c (s1L q)) ∗ (bigSep Finset.univ fun q : Fin 4 => pos0 c (r1L q))
      ∗ (bigSep Finset.univ fun q : Fin 4 => pos0 c (s2L q)) ∗ (bigSep Finset.univ fun q : Fin 4 => pos0 c (r2L q))
      ∗ (bigSep Finset.univ fun q : Fin 4 => crd c (r1L q) NS) ∗ (bigSep Finset.univ fun q : Fin 4 => crd c (r2L q) NS)
      ∗ (∃ f : S4x64x1024.Idx → Elt F .f32, ((c : Thread nD τ).loc cc0_scratch4) ↦{fullShare} f)
      ∗ (∃ f : S4x64x1024.Idx → Elt F .f32, ((c : Thread nD τ).loc cc0_scratch6) ↦{fullShare} f))
      ⊢ (XIn c : sProp 𝕄) := by
  unfold XIn s1In r1In s2In r2In
  simp only [bigSep_sep']
  iintro ⟨T1, T2, T3, T4, P1, P2, P3, P4, C1, C2, ⟨%f, B1⟩, ⟨%g, B2⟩⟩
  ihave B1 := ((Entails.of_eq (s1_split c f)).trans (some_each _ (fun q f => s1P c q fullShare f) f)) $$ B1
  ihave B2 := ((Entails.of_eq (s2_split c g)).trans (some_each _ (fun q f => s2P c q f) g)) $$ B2
  iframe

/-- The keys' and values' stages at the end, back to whole buffers. -/
theorem KV_exit (c : Dev nD) : KV m c
    ⊢ iprop((bigSep Finset.univ fun h : Fin 8 => pos1 c (kL h)) ∗ (bigSep Finset.univ fun h : Fin 8 => pos1 c (vL h))
      ∗ (bigSep Finset.univ fun h : Fin 8 => keyP c h (keyC m c)) ∗ (bigSep Finset.univ fun h : Fin 8 => valP c h (valC m c))
      ∗ (((c : Thread nD τ).loc cc0_scratch0) ↦{fullShare} kC m c) ∗ (((c : Thread nD τ).loc cc0_scratch1) ↦{fullShare} vC m c)) := by
  rw [k_split, v_split]
  unfold KV kDone vDone kPay vPay
  simp only [bigSep_sep']
  iintro ⟨⟨P1, B1, S1⟩, P2, B2, S2⟩
  iframe

/-- The exchanges' stages at the end. -/
theorem XDone_exit (c : Dev nD) : XDone m c
    ⊢ iprop((bigSep Finset.univ fun q : Fin 4 => pos1 c (s1L q)) ∗ (bigSep Finset.univ fun q : Fin 4 => pos1 c (r1L q))
      ∗ (bigSep Finset.univ fun q : Fin 4 => pos1 c (s2L q)) ∗ (bigSep Finset.univ fun q : Fin 4 => pos1 c (r2L q))
      ∗ (((c : Thread nD τ).loc cc0_scratch4) ↦{fullShare} s1C m c) ∗ r1W c (s1C m (p1 c))
      ∗ (((c : Thread nD τ).loc cc0_scratch6) ↦{fullShare} s2C m c) ∗ r2W c (s2C m (p2 c))) := by
  rw [s1_split, s2_split, r1_split, r2_split]
  unfold XDone s1Done r1Done s2Done r2Done
  simp only [bigSep_sep']
  iintro ⟨⟨P1, B1⟩, ⟨P2, B2⟩, ⟨P3, B3⟩, P4, B4⟩
  iframe

/-- Every cell past its round closes, its counter at zero. -/
theorem close_all (K : Dev nD × Fin 33 → ℕ) (c : Dev nD) :
    iprop(records m K ∗ bigSep Finset.univ fun k : Fin 33 => pos1 c (csem k))
      ⊢ |={Set.univ}=> (bigSep Finset.univ fun k : Fin 33 => semVal (kcell (c, k)) 0 : sProp 𝕄) :=
  (with_persistent (R := records m K) (Φ := fun k : Fin 33 => pos1 c (csem k)) (Ψ := fun k : Fin 33 => iprop(|={Set.univ}=> semVal (kcell (c, k)) 0)) fun k _ => by
    iintro ⟨#HR, Hp⟩
    ihave H := (records_at m K c (k := k) rfl) $$ HR
    icases H with ⟨#HI, -⟩
    iapply (Rounds.cell_close ER (rd m) (Set.mem_univ (K (c, k))) (fun h => h) (R := 0 + 1) (duties_later m (kcell (c, k))))
    isplitr; · iexact HI
    iexact Hp).trans (bigSep_fupd _ _)

/-! ## The pipeline's proof data -/

/-- What device `c`'s body starts from beside its scratch buffers and its windows. -/
def start (c : Dev nD) : sProp 𝕄 :=
  iprop(G' m c ∗ (crd c barL 2 ∗ (bigSep Finset.univ fun q : Fin 4 => crd c (r1L q) NS) ∗ (bigSep Finset.univ fun q : Fin 4 => crd c (r2L q) NS))
    ∗ levAts L lv ∗ (((c : Thread nD τ).loc main_arg2) ↦{fullShare} keyC m c) ∗ (((c : Thread nD τ).loc main_arg3) ↦{fullShare} valC m c))

def Φ₀ (c : Dev nD) : sProp 𝕄 := iprop(start m c ∗ Pipeline.scopedRest spec0 c)
/-- After the body: every cell closed, the keys' and values' arrays unchanged, the scratch buffers whole. -/
def Φ₁ (c : Dev nD) : sProp 𝕄 :=
  iprop((bigSep Finset.univ fun k : Fin 33 => semVal (kcell (c, k)) 0)
    ∗ ((((c : Thread nD τ).loc main_arg2) ↦{fullShare} keyC m c) ∗ (((c : Thread nD τ).loc main_arg3) ↦{fullShare} valC m c))
    ∗ Pipeline.scopedRest spec0 c)

def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => wqC m c
    | ⟨2, _⟩ => woC m c
    | ⟨3, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The inputs are fetched whole. -/
theorem before_x (c : Dev nD) (d : S1x256x1024.Idx → Elt F .f32) : (dats m 0 c).before (0 : Fin 4) t₀ d = xC m c := by
  unfold Dat.before
  rw [if_pos (show (cfg0.win (0 : Fin 4)).fetch t₀ = true from rfl)]
  have hz : (fun a => win0_0.index t₀ a * main_arg0.ty.shape.size a) = fun _ => 0 := funext fun a => Nat.zero_mul _
  exact Memref.read_access_unit_zero (Elt F) main_arg0 hz (fun a => by rw [congrFun hz a]; simp) (xC m c)
theorem before_wq (c : Dev nD) (d : S1024x1024.Idx → Elt F .f32) : (dats m 0 c).before (1 : Fin 4) t₀ d = wqC m c := by
  unfold Dat.before
  rw [if_pos (show (cfg0.win (1 : Fin 4)).fetch t₀ = true from rfl)]
  have hz : (fun a => win0_1.index t₀ a * main_arg1.ty.shape.size a) = fun _ => 0 := funext fun a => Nat.zero_mul _
  exact Memref.read_access_unit_zero (Elt F) main_arg1 hz (fun a => by rw [congrFun hz a]; simp) (wqC m c)
theorem before_wo (c : Dev nD) (d : S1024x1024.Idx → Elt F .f32) : (dats m 0 c).before (2 : Fin 4) t₀ d = woC m c := by
  unfold Dat.before
  rw [if_pos (show (cfg0.win (2 : Fin 4)).fetch t₀ = true from rfl)]
  have hz : (fun a => win0_2.index t₀ a * main_arg4.ty.shape.size a) = fun _ => 0 := funext fun a => Nat.zero_mul _
  exact Memref.read_access_unit_zero (Elt F) main_arg4 hz (fun a => by rw [congrFun hz a]; simp) (woC m c)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))
def bodyPost (c : Dev nD) : sProp 𝕄 :=
  iprop(Φ₁ m c ∗ (dats m 0 c).owesAt () t₀.succ ∗ stg c cc0_stg0_0 (xC m c) ∗ stg c cc0_stg1_0 (wqC m c) ∗ stg c cc0_stg2_0 (woC m c)
    ∗ stg c cc0_stg3_0 (outC m c))

/-- The staged inputs hold the device's arrays. -/
theorem staged (c : Dev nD) :
    iprop((∃ d, stg c cc0_stg0_0 ((dats m 0 c).before (0 : Fin 4) t₀ d))
      ∗ (∃ d, stg c cc0_stg1_0 ((dats m 0 c).before (1 : Fin 4) t₀ d))
      ∗ (∃ d, stg c cc0_stg2_0 ((dats m 0 c).before (2 : Fin 4) t₀ d))
      ∗ (∃ d, stg c cc0_stg3_0 ((dats m 0 c).before (3 : Fin 4) t₀ d)))
      ⊢ iprop(roW m c ∗ outP m c 0) := by
  unfold roW outP
  iintro ⟨⟨%d0, %g0, %h0, H0⟩, ⟨%d1, %g1, %h1, H1⟩, ⟨%d2, %g2, %h2, H2⟩, ⟨%d3, %g3, %h3, H3⟩⟩
  have e0 : g0 = xC m c := h0.trans (before_x m c d0)
  have e1 : g1 = wqC m c := h1.trans (before_wq m c d1)
  have e2 : g2 = woC m c := h2.trans (before_wo m c d2)
  subst e0 e1 e2
  isplitr [H3]
  · isplitl [H0]; · iexact H0
    isplitl [H1]; · iexact H1
    iexact H2
  · iexists g3
    isplitr; · ipureintro; intro a b h; omega
    iexact H3

/-- A result block whose row blocks are all computed is the result. -/
theorem out_done (c : Dev nD) : outP m c 4 ⊢ (stg c cc0_stg3_0 (outC m c) : sProp 𝕄) := by
  unfold outP stg
  iintro ⟨%f, %h, H⟩
  iexists f
  isplitr
  · ipureintro
    funext i
    obtain ⟨z, a, b, rfl⟩ : ∃ (z : Fin 1) (a : Fin 256) (b : Fin 1024), i = ix3 z a b := ⟨i 0, i 1, i 2, eq_ix3 i⟩
    obtain rfl : z = 0 := Subsingleton.elim _ _
    exact h a b (by have := a.isLt; omega)
  iexact H

set_option maxHeartbeats 1600000 in
theorem body_run (c : Dev nD) (Q : PUnit → sProp (MT nD τ sig Unit (Elt F) ℕ UU ℕ)) :
    iprop(bodyPre m c ∗ (bodyPost m c -∗ Q ⟨⟩))
      ⊢ wpp c (cc0_body xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11) Q := by
  unfold bodyPre Φ₀ start G' posAll payToks
  rw [scopedRest0_eq]
  iintro ⟨⟨⟨⟨⟨%K, #HR, Hpos, ⟨Tk, Tv, Ts1, Tr1, Ts2, Tr2, TbF⟩, TbT⟩, ⟨Cb, C1, C2⟩, #Hlev, Hkey, Hval⟩, Bk, Bv, Bs1, Br1, Bs2, Br2⟩, Ho, Hst⟩, Hk⟩
  ihave Hst := (staged m c) $$ Hst
  icases Hst with ⟨Hro, Hout⟩
  ihave Hpos := (Entails.of_eq (cells_families (F := F) fun s => pos0 c s)) $$ Hpos
  icases Hpos with ⟨Pk, Pv, Ps1, Pr1, Ps2, Pr2, Pb⟩
  ihave Hkey := (Entails.of_eq (key_split c (keyC m c))) $$ Hkey
  icases Hkey with ⟨Hkey, Hkr⟩
  ihave Hval := (Entails.of_eq (val_split c (valC m c))) $$ Hval
  icases Hval with ⟨Hval, Hvr⟩
  unfold Dat.owesAt Pipeline.owesWithin
  icases Ho with ⟨%W, %hW, HO⟩
  rw [show (dats m 0 c).owed t₀.castSucc = Oe c 10 from rfl]
  rw [← bind_pure (cc0_body xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11)]
  iapply (body m K c (Q := Q) (k := fun u => pure u)) $$ [HO] [TbF TbT Cb Pb Br1 Br2] Hro Hout [Tk Tv Pk Pv Hkey Hval Bk Bv] [Ts1 Tr1 Ts2 Tr2 Ps1 Pr1 Ps2 Pr2 C1 C2 Bs1 Bs2]
  · unfold acct
    isplitr; · iexact HR
    isplitr; · iexact Hlev
    iexists W; iexact HO
  · unfold barIn r1W r2W
    isplitl [TbF]; · iexact TbF
    isplitl [Br1]; · iexact Br1
    isplitl [TbT]; · iexact TbT
    isplitl [Br2]; · iexact Br2
    isplitl [Cb]; · iexact Cb
    iexact Pb
  · iapply (KVIn_intro m c)
    isplitl [Tk]; · iexact Tk
    isplitl [Tv]; · iexact Tv
    isplitl [Pk]; · iexact Pk
    isplitl [Pv]; · iexact Pv
    isplitl [Hkey]; · iexact Hkey
    isplitl [Hval]; · iexact Hval
    isplitl [Bk]; · iexact Bk
    iexact Bv
  · iapply (XIn_intro (F := F) c)
    isplitl [Ts1]; · iexact Ts1
    isplitl [Tr1]; · iexact Tr1
    isplitl [Ts2]; · iexact Ts2
    isplitl [Tr2]; · iexact Tr2
    isplitl [Ps1]; · iexact Ps1
    isplitl [Pr1]; · iexact Pr1
    isplitl [Ps2]; · iexact Ps2
    isplitl [Pr2]; · iexact Pr2
    isplitl [C1]; · iexact C1
    isplitl [C2]; · iexact C2
    isplitl [Bs1]; · iexact Bs1
    iexact Bs2
  iintro HA Pb Hro Hout HKV HX
  unfold acct
  icases HA with ⟨-, -, %W', HO⟩
  ihave HKV := (KV_exit m c) $$ HKV
  icases HKV with ⟨Pk, Pv, Hkey, Hval, Bk, Bv⟩
  ihave HX := (XDone_exit m c) $$ HX
  icases HX with ⟨Ps1, Pr1, Ps2, Pr2, Bs1, Br1, Bs2, Br2⟩
  unfold wpp
  rw [Prog.pure_eq_ret, wp_ret]
  imod (close_all m K c) $$ [Pk Pv Ps1 Pr1 Ps2 Pr2 Pb] with HZ
  · isplitr; · iexact HR
    iapply (Entails.of_eq (cells_families (F := F) fun s => pos1 c s).symm)
    isplitl [Pk]; · iexact Pk
    isplitl [Pv]; · iexact Pv
    isplitl [Ps1]; · iexact Ps1
    isplitl [Pr1]; · iexact Pr1
    isplitl [Ps2]; · iexact Ps2
    isplitl [Pr2]; · iexact Pr2
    iexact Pb
  imodintro
  iapply Hk
  unfold bodyPost Φ₁ roW r1W r2W
  rw [scopedRest0_eq]
  icases Hro with ⟨H0, H1, H2⟩
  isplitl [HZ Hkey Hval Hkr Hvr Bk Bv Bs1 Br1 Bs2 Br2]
  · isplitl [HZ]; · iexact HZ
    isplitl [Hkey Hval Hkr Hvr]
    · isplitl [Hkey Hkr]
      · iapply (Entails.of_eq (key_split c (keyC m c)).symm)
        isplitl [Hkey]; · iexact Hkey
        iexact Hkr
      · iapply (Entails.of_eq (val_split c (valC m c)).symm)
        isplitl [Hval]; · iexact Hval
        iexact Hvr
    isplitl [Bk]; · iexists _; iexact Bk
    isplitl [Bv]; · iexists _; iexact Bv
    isplitl [Bs1]; · iexists _; iexact Bs1
    isplitl [Br1]; · iexists _; iexact Br1
    isplitl [Bs2]; · iexists _; iexact Bs2
    iexists _; iexact Br2
  isplitl [HO]
  · unfold Dat.owesAt Pipeline.owesWithin
    iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iapply (out_done m c); iexact Hout

set_option maxRecDepth 40000 in
/-- The library's body obligation on core `c`. -/
theorem body_obligation (c : Dev nD) : BodyObligation (dats (F := F) m 0 c) (defs₀ (F := F)) 𝒱₀ () Set.univ := fun t => by
  rw [fin_N t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_whole_eq]
  show bodyPre m c ⊢ wpp c (cc0_body xM (Memref.isWhole_whole _) wqM (Memref.isWhole_whole _) keyM (Memref.isWhole_whole _) valM (Memref.isWhole_whole _) woM (Memref.isWhole_whole _) outM (Memref.isWhole_whole _) kM (Memref.isWhole_whole _) vM (Memref.isWhole_whole _) cc0_scratch2 cc0_scratch3 s1M (Memref.isWhole_whole _) r1M (Memref.isWhole_whole _) s2M (Memref.isWhole_whole _) r2M (Memref.isWhole_whole _) cc0_scratch8 cc0_scratch9 cc0_scratch10 cc0_scratch11) (fun _ => bodyPost m c)
  iintro H
  iapply (body_run m c fun _ => bodyPost m c)
  isplitl [H]; · iexact H
  iintro H; iexact H

end Cert.AttnProof

end
-- ==== Proof.Attn.Run.lean ====
/-
  The run of the whole program: every device's result array at the sum over all devices, every argument unchanged, every
  semaphore at zero.
-/
module

public import proofs.«01_k».proof.Proof.Attn.Launch
public import Idealize.ShloMosaic.Lib.Pipeline.CollectiveSegs

@[expose] public section

noncomputable section

namespace Cert.AttnProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

variable (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hk, Hv⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hk]; · iexact Hk
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

/-- What the end of the run still holds of device `c` beside its windows. -/
def tail (c : Dev nD) : sProp 𝕄 :=
  iprop(unscopedSems0 c ∗ (((c : Thread nD τ).loc main_arg2) ↦{fullShare} keyC m c) ∗ (((c : Thread nD τ).loc main_arg3) ↦{fullShare} valC m c))

theorem phi1_exit (c : Dev nD) :
    (dats m 0 c).Φ (Fin.last cfg0.N) ⊢ iprop(tail m c ∗ Pipeline.ownSems0 osem c ∗ Pipeline.scopedRest cfg0.spec c) := by
  rw [show (dats m 0 c).Φ (Fin.last cfg0.N) = Φ₁ m c from rfl]
  unfold Φ₁ tail
  rw [sems0_eq]
  iintro ⟨⟨Ho, Hu⟩, ⟨Hk, Hv⟩, Hr⟩
  isplitl [Hu Hk Hv]
  · isplitl [Hu]; · iexact Hu
    isplitl [Hk]; · iexact Hk
    iexact Hv
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 10 (by fin_cases w <;> fin_cases s <;> decide)
    · show _ ⊢ MayWait _ _ _ 0
      rw [MayWait_zero]; iintro -; iempintro

/-- What a final memory holds of device `c`. -/
def final (c : Dev nD) (s : MemSt nD τ sig (Elt F)) : Prop :=
  s.mem ((c : Thread nD τ).loc main_v1) = outC m c
    ∧ s.mem ((c : Thread nD τ).loc main_arg0) = xC m c ∧ s.mem ((c : Thread nD τ).loc main_arg1) = wqC m c
    ∧ s.mem ((c : Thread nD τ).loc main_arg2) = keyC m c ∧ s.mem ((c : Thread nD τ).loc main_arg3) = valC m c
    ∧ s.mem ((c : Thread nD τ).loc main_arg4) = woC m c

def finalA (c : Dev nD) (w : Fin cfg0.W) : Buf (Elt F) ((cfg0.win w).arr.view.loc (c : Thread nD τ)) := (dats m 0 c).arrAt w cfg0.N

/-- The result array is written back whole. -/
theorem final_out (c : Dev nD) : finalA m c (3 : Fin 4) = outC m c := by
  have hz : (fun a => win0_3.index t₀ a * main_v1.ty.shape.size a) = fun _ => 0 := funext fun a => Nat.zero_mul _
  refine (dats m 0 c).arrAt_eq_of_cover (3 : Fin 4) (outC m c) (fun t _ => ?_) fun (i : S1x256x1024.Idx) => ⟨t₀, rfl, ?_⟩
  · rw [fin_N t]
    exact (Memref.read_access_unit_zero (Elt F) main_v1 hz (fun a => by rw [congrFun hz a]; simp) (outC m c)).symm
  · show i ∈ ((View.whole main_v1).slice (win0_3.rect t₀)).set
    rw [View.set_slice_whole, Rect.mem_set_unit]
    intro a
    show win0_3.index t₀ a * main_v1.ty.shape.size a ≤ (i a : ℕ) ∧ (i a : ℕ) < win0_3.index t₀ a * main_v1.ty.shape.size a + main_v1.ty.shape.size a
    rw [congrFun hz a]
    exact ⟨Nat.zero_le _, by rw [Nat.zero_add]; exact (i a).isLt⟩

/-- What the rest of a device's memory reads at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = keyC m c ∧ s.mem ((c : Thread nD τ).loc main_arg3) = valC m c

theorem tail_read (c : Dev nD) (s' : Phys nD τ sig (Elt F)) :
    iprop(tail m c ∗ emp ∗ SI s') ⊢ |={Set.univ}=> (iprop(⌜QY m c s'.mem⌝ ∗ SI s') : sProp 𝕄) := by
  unfold tail
  iintro ⟨⟨Hu, Hk, Hv⟩, -, HSI⟩
  ihave H := (pointsTo_read_all ({()} : Finset Unit) (fun _ => (c : Thread nD τ).loc main_arg2) (fun _ => keyC m c) s') $$ [Hk HSI]
  · isplitl [Hk]; · rw [bigSep_singleton]; iexact Hk
    iexact HSI
  icases H with ⟨%h2, HSI⟩
  ihave H := (pointsTo_read_all ({()} : Finset Unit) (fun _ => (c : Thread nD τ).loc main_arg3) (fun _ => valC m c) s') $$ [Hv HSI]
  · isplitl [Hv]; · rw [bigSep_singleton]; iexact Hv
    iexact HSI
  icases H with ⟨%h3, HSI⟩
  imod (Pipeline.unscopedSems0_read (X := unscopedSems0 c) (c := c) fupd_intro s') $$ [Hu HSI] with ⟨%h1, HSI⟩
  · isplitl [Hu] <;> iassumption
  imodintro
  isplitr
  · ipureintro; exact ⟨h1, h2 () (Finset.mem_singleton_self _), h3 () (Finset.mem_singleton_self _)⟩
  iexact HSI

set_option maxRecDepth 8000 in
theorem run_raw : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w) ∧ QY m c r.2)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := tail m) (Z := fun _ => iprop(emp))
    (hX := start_intro m ρ) (hin := phi0_intro m) (hout := phi1_exit m)
    (QY := QY m) (hY := tail_read m)
    (hQ := fun _ h hs => ⟨fun c => ⟨(h c).1, (h c).2.2⟩, sem_eq_zero hs fun c => (h c).2.2.1⟩)

/-- From any memory with zero counters every weakly fair execution of the program on the four devices terminates, with
    every device's result array at the sum over all devices, its arguments unchanged and every counter at zero. -/
theorem run_main : θ_run defs (onTc (τ := τ) (main (F := F))) ⟨m, fun _ => 0, ρ⟩ (fun r => (∀ c : Dev nD, final m c r.2) ∧ r.2.sem = fun _ => 0) :=
  (θ_run defs _ _).mono (fun _ h => ⟨fun c =>
    ⟨((h.1 c).1 (3 : Fin 4)).trans (final_out m c), ((h.1 c).1 (0 : Fin 4)).trans ((dats m 0 c).arrAt_in (0 : Fin 4) rfl _),
      ((h.1 c).1 (1 : Fin 4)).trans ((dats m 0 c).arrAt_in (1 : Fin 4) rfl _), (h.1 c).2.2.1, (h.1 c).2.2.2,
      ((h.1 c).1 (2 : Fin 4)).trans ((dats m 0 c).arrAt_in (2 : Fin 4) rfl _)⟩, h.2⟩) (run_raw m ρ)

end Cert.AttnProof

end
-- ==== Proof.Attn.Frames.lean ====
/-
  The frames and the ledger: every program runs, leaves its arguments unchanged and every semaphore at zero; the named
  constant is the one the table gives.
-/
module

public import proofs.«01_k».proof.Defs
public import proofs.«01_k».proof.Proof.Attn.Run
public import proofs.«01_k».proof.Proof.Gen.Kernel
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal

@[expose] public section

noncomputable section

namespace Cert.AttnProof

open Idealize.ShloMosaic Idealize.SL.Sem

/-- The machine's own floats take a named constant at the value its bits spell. -/
@[reducible] def bitsNamed : Named Bits := ⟨fun _ _ {φ} bits => Scalar.ofBits φ bits⟩

/-- Over any floats the program runs, its arguments unchanged and its semaphores at zero. -/
theorem frame_any {F : FTy → Type} [FloatOps F] [Named F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
       ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
       ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
       ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
       ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c).2.1, (h.1 c).2.2.1, (h.1 c).2.2.2.1, (h.1 c).2.2.2.2.1, (h.1 c).2.2.2.2.2⟩, h.2⟩)
    (run_main m ρ)

section Named

attribute [local instance] bitsNamed

/-- The printed body and the named one are the same program over the machine's floats. -/
theorem body_named (hK : Cert.Kernel.Facts) (hI : Cert.KernelIdeal.Facts) (a0 h0 a1 h1 a2 h2 a3 h3 a4 h4 a5 h5 a6 h6 a7 h7 a8 a9 a10 h10 a11 h11 a12 h12 a13 h13 a14 a15 a16 a17) : Cert.Kernel.cc0_body (F := Bits) a0 h0 a1 h1 a2 h2 a3 h3 a4 h4 a5 h5 a6 h6 a7 h7 a8 a9 a10 h10 a11 h11 a12 h12 a13 h13 a14 a15 a16 a17 =  Cert.KernelIdeal.cc0_body (F := Bits) a0 h0 a1 h1 a2 h2 a3 h3 a4 h4 a5 h5 a6 h6 a7 h7 a8 a9 a10 h10 a11 h11 a12 h12 a13 h13 a14 a15 a16 a17 := rfl

/-- So are the two tables of bodies. -/
theorem bodies_named : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => exact body_named _ _ _ _ _ _ _ _ _ _ _ _ _ _ _ _ _ _ _ _ _ _ _ _ _ _ _ _ _ _ _ _

/-- And the two tables of every call. -/
theorem defs_named : Cert.Kernel.defs (F := Bits) = Cert.KernelIdeal.defs (F := Bits) := by
  unfold Cert.Kernel.defs Cert.KernelIdeal.defs
  exact congrArg (Pipeline.defs (Cert.KernelIdeal.pcfgs (F := Bits))) bodies_named

/-- The printed program is the named one over the machine's floats. -/
theorem main_named : Cert.Kernel.main (F := Bits) = Cert.KernelIdeal.main (F := Bits) := funext fun _ => rfl

theorem frame_kernel : Cert.quiescent_Kernel := by
  intro m ρ _
  have h := frame_any (F := Bits) m ρ
  rw [← defs_named, ← main_named] at h
  exact h

end Named

theorem frame_ideal : Cert.quiescent_KernelIdeal := fun m ρ _ => frame_any (F := Ideal) m ρ

theorem frame_ideal_finite : Cert.quiescent_KernelIdeal_pre_finite_KernelIdeal := fun m ρ _ => frame_ideal m ρ trivial

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_finite : Cert.quiescent_ReferenceIdeal_pre_finite_ReferenceIdeal := fun m ρ _ => frame_reference m ρ trivial

/-- The mask's constant is the least extended real, as the table says. -/
theorem mask_preserved : Cert.preserves_Kernel_KernelIdeal :=
  IdealRules.named_const.statement Cert.KernelIdeal.κ "mask" .f32 0xCE6E6B28#32 ⊥ rfl

end Cert.AttnProof

end
-- ==== Proof.Val.Head.lean ====
/-
  One head of one query block as one vector expression, and each query block's stored product as the eight heads of it in
  order.
-/
module

public import proofs.«01_k».proof.Proof.Attn.Acc

@[expose] public section

noncomputable section

namespace Cert.AttnValue

open Idealize.ShloMosaic Cert.KernelIdeal Cert.KernelIdeal.Gen Cert.AttnProof
open Cert.KernelIdeal.Facts

variable {F : FTy → Type} [FloatOps F] [Named F]

theorem slices_qh (q : Fin 4) (h : Fin 8) : S256x1024.Slices ![64 * q.val, 128 * h.val] S64x128 := by
  revert q h; decide

/-- The queries of query block `q` and head `h`. -/
def qSlice (Q : FVec F S256x1024 .f32) (q : Fin 4) (h : Fin 8) : FVec F S64x128 .f32 :=
  extractStridedSlice S64x128 ![64 * q.val, 128 * h.val] Q (slices_qh q h)

/-- The exponentials of a head's biased scores. -/
def expo (b : FVec F S1x4096 .f32) (s : FVec F S64x128 .f32) (K : Vec F S1x4096x128 .f32) : FVec F S64x4096 .f32 :=
  exp (addf (matmul dot_S64x128_S4096x128_S64x4096_1_1_0_0_n_n none s (shapeCast S4096x128 K shapeCasts_S1x4096x128_S4096x128)
      (constant S64x4096 .f32 0x00000000#32)) (broadcastTo S64x4096 b broadcasts_S1x4096_S64x4096))

/-- A head's context: the values summed under the exponentials, over the sum of these. -/
def ctxv (b : FVec F S1x4096 .f32) (s : FVec F S64x128 .f32) (K V : Vec F S1x4096x128 .f32) : FVec F S64x128 .f32 :=
  divf (matmul dot_S64x4096_S4096x128_S64x128_1_0_0_1_n_n none (expo b s K) (shapeCast S4096x128 V shapeCasts_S1x4096x128_S4096x128)
      (constant S64x128 .f32 0x00000000#32))
    (broadcastTo S64x128 (shapeCast S64x1 (multiReduction .add [1] S64 (expo b s K) 0x00000000#32 reduces_S64x4096_S64 (.inl rfl) rfl)
      shapeCasts_S64_S64x1) broadcasts_S64x1_S64x128)

/-- A head's product with its rows of the output matrix, added to what the heads before it gave. -/
def headStep (b : FVec F S1x4096 .f32) (acc : FVec F S64x1024 .f32) (s : FVec F S64x128 .f32) (K V : Vec F S1x4096x128 .f32)
    (W : Vec F S128x1024 .f32) : FVec F S64x1024 .f32 :=
  addf acc (matmul dot_S64x128_S128x1024_S64x1024_1_0_0_1_n_n none (ctxv b s K V) (shapeCast S128x1024 W shapeCasts_S128x1024_S128x1024)
    (constant S64x1024 .f32 0x00000000#32))

/-- The bias of query block `q`. -/
def biasOf (q : Fin 4) : FVec F S1x4096 .f32 :=
  match q with
  | 0 => bias0
  | 1 => bias1
  | 2 => bias2
  | 3 => bias3

section
variable (x : Vec F S1x256x1024 .f32) (wq : Vec F S1024x1024 .f32) (K V : Fin 8 → Vec F S1x4096x128 .f32)
  (W : Fin 8 → Vec F S128x1024 .f32)

/-- Head `h` of query block `q` on top of `acc`. -/
def stepAt (q : Fin 4) (h : Fin 8) (acc : FVec F S64x1024 .f32) : FVec F S64x1024 .f32 :=
  headStep (biasOf q) acc (qSlice (qAll x wq) q h) (K h) (V h) (W h)

/-- The eight heads of query block `q`. -/
def heads (q : Fin 4) : FVec F S64x1024 .f32 :=
  let f := stepAt x wq K V W q
  f 7 (f 6 (f 5 (f 4 (f 3 (f 2 (f 1 (f 0 (broadcast S64x1024 (Scalar.ofBits .f32 0x00000000#32)))))))))

set_option maxRecDepth 16384

theorem acc0_heads : acc0 x wq K V W = heads x wq K V W 0 := rfl
theorem acc1_heads : acc1 x wq K V W = shapeCast S1x64x1024 (heads x wq K V W 1) shapeCasts_S64x1024_S1x64x1024 := rfl
theorem acc2_heads : acc2 x wq K V W = heads x wq K V W 2 := rfl
theorem acc3_heads : acc3 x wq K V W = shapeCast S1x64x1024 (heads x wq K V W 3) shapeCasts_S64x1024_S1x64x1024 := rfl

/-- What the device stores for query block `q` is its eight heads. -/
theorem accSt_heads (q : Fin 4) : accSt x wq K V W q = shapeCast S1x64x1024 (heads x wq K V W q) shapeCasts_S64x1024_S1x64x1024 := by
  match q with
  | 0 => exact congrArg k0_pay35 (acc0_heads x wq K V W)
  | 1 => exact acc1_heads x wq K V W
  | 2 => exact congrArg k0_pay55 (acc2_heads x wq K V W)
  | 3 => exact acc3_heads x wq K V W

end

/-- The sums of both exchanges are entry by entry. -/
theorem midSt_apply (q : Fin 4) (a b : FVec F S1x64x1024 .f32) (i : S1x64x1024.Idx) : midSt q a b i = FloatOps.addf (a i) (b i) := by
  have e : midSt q a b = shapeCast S1x64x1024 (addf (shapeCast S64x1024 a shapeCasts_S1x64x1024_S64x1024)
      (shapeCast S64x1024 b shapeCasts_S1x64x1024_S64x1024)) shapeCasts_S64x1024_S1x64x1024 := by
    match q with
    | 0 => rfl
    | 1 => rfl
    | 2 => rfl
    | 3 => rfl
  rw [e]
  have h (u : FVec F S1x64x1024 .f32) : shapeCast S1x64x1024 (shapeCast S64x1024 u shapeCasts_S1x64x1024_S64x1024)
      shapeCasts_S64x1024_S1x64x1024 i = u i := by
    unfold shapeCast
    rw [Shape.reshapeEquiv_reshapeEquiv, Shape.reshapeEquiv_self]
  exact congrArg₂ FloatOps.addf (h a) (h b)

theorem outSt_eq_midSt (q : Fin 4) (a b : FVec F S1x64x1024 .f32) : outSt q a b = midSt q a b := by
  match q with
  | 0 => rfl
  | 1 => rfl
  | 2 => rfl
  | 3 => rfl

end Cert.AttnValue

end
-- ==== Proof.Val.HeadRead.lean ====
/-
  One head of one query block, read at an index over the extended reals.
-/
module

public import proofs.«01_k».proof.Proof.Val.Head
public import Idealize.ShloMosaic.Lib.Pointwise

@[expose] public section

noncomputable section

namespace Cert.AttnValue

open Idealize.ShloMosaic Cert.KernelIdeal Cert.KernelIdeal.Gen Cert.AttnProof
open Cert.KernelIdeal.Facts

set_option maxRecDepth 16384

/-- The scaled queries at a row and a column. -/
theorem qAll_apply (x : Vec Ideal S1x256x1024 .f32) (wq : Vec Ideal S1024x1024 .f32) (r : Fin 256) (c : Fin 1024) :
    qAll x wq (ix2 r c) = (∑ t : Fin 1024, x (ix3 0 r t) * wq (ix2 t c)) * Ideal.ofBits .f32 0x3DB504F3#32 := by
  pointwise [k0_pay14]

theorem qSlice_apply (Q : FVec Ideal S256x1024 .f32) (q : Fin 4) (h : Fin 8) (i : Fin 64) (d : Fin 128) :
    qSlice Q q h (ix2 i d) = Q (ix2 ⟨64 * q.val + i.val, by omega⟩ ⟨128 * h.val + d.val, by omega⟩) := by
  pointwise [qSlice]

theorem expo_apply (b : FVec Ideal S1x4096 .f32) (s : FVec Ideal S64x128 .f32) (K : Vec Ideal S1x4096x128 .f32) (i : Fin 64) (k : Fin 4096) :
    expo b s K (ix2 i k) = Ideal.exp ((∑ d : Fin 128, s (ix2 i d) * K (ix3 0 k d)) + b (ix2 0 k)) := by
  pointwise [expo]

theorem ctxv_apply (b : FVec Ideal S1x4096 .f32) (s : FVec Ideal S64x128 .f32) (K V : Vec Ideal S1x4096x128 .f32) (i : Fin 64) (d : Fin 128) :
    ctxv b s K V (ix2 i d) = Ideal.div (∑ k : Fin 4096, expo b s K (ix2 i k) * V (ix3 0 k d)) (∑ k : Fin 4096, expo b s K (ix2 i k)) := by
  pointwise [ctxv]

theorem headStep_apply (b : FVec Ideal S1x4096 .f32) (acc : FVec Ideal S64x1024 .f32) (s : FVec Ideal S64x128 .f32)
    (K V : Vec Ideal S1x4096x128 .f32) (W : Vec Ideal S128x1024 .f32) (i : Fin 64) (j : Fin 1024) :
    headStep b acc s K V W (ix2 i j) = acc (ix2 i j) + ∑ d : Fin 128, ctxv b s K V (ix2 i d) * W (ix2 d j) := by
  pointwise [headStep]

section
variable (x : Vec Ideal S1x256x1024 .f32) (wq : Vec Ideal S1024x1024 .f32) (K V : Fin 8 → Vec Ideal S1x4096x128 .f32)
  (W : Fin 8 → Vec Ideal S128x1024 .f32)

/-- A query block's product is the sum over its heads. -/
theorem heads_apply (q : Fin 4) (i : Fin 64) (j : Fin 1024) :
    heads x wq K V W q (ix2 i j)
      = ∑ h : Fin 8, ∑ d : Fin 128, ctxv (biasOf q) (qSlice (qAll x wq) q h) (K h) (V h) (ix2 i d) * W h (ix2 d j) := by
  unfold heads stepAt
  simp only [headStep_apply]
  rw [Fin.sum_univ_eight]
  have h0 : broadcast S64x1024 (Scalar.ofBits .f32 0x00000000#32 : Ideal .f32) (ix2 i j) = 0 := by pointwise
  rw [h0, zero_add]

theorem accSt_apply (q : Fin 4) (i : Fin 64) (j : Fin 1024) : accSt x wq K V W q (ix3 0 i j) = heads x wq K V W q (ix2 i j) := by
  rw [accSt_heads]
  generalize heads x wq K V W q = g
  pointwise

end

end Cert.AttnValue

end
-- ==== Proof.Val.Bias.lean ====
/-
  The kernel's biases: zero where a query block may look at a key block, -∞ elsewhere.
-/
module

public import proofs.«01_k».proof.Proof.Val.HeadRead

@[expose] public section

noncomputable section

namespace Cert.AttnValue

open Idealize.ShloMosaic Cert.KernelIdeal Cert.KernelIdeal.Gen Cert.AttnProof
open Cert.KernelIdeal.Facts

set_option maxRecDepth 16384

/-- Which key blocks a query block looks at. -/
def sees (q b : ℕ) : Bool := b == q || b == 0 || (q + b) % 3 == 0

/-- The remainder by three, rounded to the floor, as the words compute it. -/
def floorRem (w : BitVec 32) : BitVec 32 :=
  let r := IntOp.remsi .vector w 3#32
  Scalar.select (IntOp.andi (IntOp.xori (IntOp.cmpi .slt r 0#32) (Scalar.cmpi .slt 3#32 0#32)) (IntOp.cmpi .ne r 0#32))
    (IntOp.addi r 3#32) r

/-- The kernel's test of a key block's word against query block `p`. -/
def seesW (p w : BitVec 32) : BitVec 1 :=
  IntOp.ori (IntOp.ori (IntOp.cmpi .eq w p) (IntOp.cmpi .eq w 0#32)) (IntOp.cmpi .eq (floorRem (IntOp.addi p w)) 0#32)

/-- The key block of each key. -/
theorem keyBlk_word : ∀ k : Fin 4096, keyBlk (ix2 0 k) = BitVec.ofNat 32 (k.val / 64) := by decide +kernel

theorem seesW_word : ∀ (q : Fin 4) (b : Fin 64), seesW (BitVec.ofNat 32 q.val) (BitVec.ofNat 32 b.val) = BitVec.ofBool (sees q b) := by
  decide +kernel

theorem biasOf_select (q : Fin 4) (k : Fin 4096) :
    (biasOf q : FVec Ideal S1x4096 .f32) (ix2 0 k)
      = Scalar.select (seesW (BitVec.ofNat 32 q.val) (keyBlk (ix2 0 k))) (Ideal.ofBits .f32 0x00000000#32) ⊥ := by
  match q with
  | 0 => rfl
  | 1 => rfl
  | 2 => rfl
  | 3 => rfl

/-- The bias of a query block at a key. -/
theorem biasOf_apply (q : Fin 4) (k : Fin 4096) :
    (biasOf q : FVec Ideal S1x4096 .f32) (ix2 0 k) = if sees q (k.val / 64) then 0 else ⊥ := by
  rw [biasOf_select, keyBlk_word, seesW_word q ⟨k.val / 64, by omega⟩]
  cases sees q (k.val / 64)
  · rfl
  · exact Ideal.ofBits_zero_f32

end Cert.AttnValue

end
-- ==== Proof.Val.RefMask.lean ====
/-
  The reference's mask, read at an index.
-/
module

public import proofs.«01_k».proof.Proof.Val.Bias
public import proofs.«01_k».proof.Proof.Gen.ReferenceIdeal.Read
public import Idealize.ShloMosaic.Lib.Routing.OpsOrder

@[expose] public section

noncomputable section

namespace Cert.AttnValue

open Idealize.ShloMosaic Cert.ReferenceIdeal Cert.ReferenceIdeal.Gen Cert.ReferenceIdeal.Read

set_option maxRecDepth 16384

/-- The remainder by three, rounded to the floor, as the reference's words compute it. -/
def floorRemR (w : BitVec 32) : BitVec 32 :=
  let r := IntOp.remsi .host w (Scalar.select (IntOp.cmpi .eq 3#32 0#32) 1#32 3#32)
  Scalar.select (IntOp.andi (IntOp.cmpi .ne (IntOp.cmpi .slt r 0#32) (IntOp.cmpi .slt (Scalar.select (IntOp.cmpi .eq 3#32 0#32) 1#32 3#32) 0#32))
    (IntOp.cmpi .ne r 0#32)) (IntOp.addi r (Scalar.select (IntOp.cmpi .eq 3#32 0#32) 1#32 3#32)) r

/-- The reference's test of the words of a query block and a key block. -/
def seesR (p w : BitVec 32) : BitVec 1 :=
  IntOp.ori (IntOp.ori (IntOp.cmpi .eq p w) (IntOp.cmpi .eq w 0#32)) (IntOp.cmpi .eq (floorRemR (IntOp.addi p w)) 0#32)

theorem seesR_word : ∀ (q : Fin 4) (b : Fin 64), seesR (BitVec.ofNat 32 q.val) (BitVec.ofNat 32 b.val) = BitVec.ofBool (sees q b) := by
  decide +kernel

theorem rowBlk_word : ∀ r : Fin 256, (val_main_v3 (F := Ideal) (ix1 (r)) : BitVec 32) = BitVec.ofNat 32 (r.val / 64) := by decide +kernel

theorem colBlk_word : ∀ k : Fin 4096, (val_main_v6 (F := Ideal) (ix1 (k)) : BitVec 32) = BitVec.ofNat 32 (k.val / 64) := by decide +kernel

theorem mask_words (i : S256x4096.Idx) :
    val_main_v21 (F := Ideal) i = seesR (val_main_v3 (F := Ideal) (ix1 (i 0))) (val_main_v6 (F := Ideal) (ix1 (i 1))) := by
  have e3 (a : S256.Idx) (h : a 0 = i 0) : val_main_v3 (F := Ideal) a = val_main_v3 (F := Ideal) (ix1 (i 0)) := by
    congr 1; funext b; match b with | ⟨0, _⟩ => exact h
  have e6 (a : S4096.Idx) (h : a 0 = i 1) : val_main_v6 (F := Ideal) a = val_main_v6 (F := Ideal) (ix1 (i 1)) := by
    congr 1; funext b; match b with | ⟨0, _⟩ => exact h
  have h8 : val_main_v8 (F := Ideal) i = val_main_v3 (F := Ideal) (ix1 (i 0)) := by
    rw [val_main_v8_apply, val_main_v4_apply]; exact e3 _ rfl
  have h9 : val_main_v9 (F := Ideal) i = val_main_v6 (F := Ideal) (ix1 (i 1)) := by
    rw [val_main_v9_apply, val_main_v7_apply]; exact e6 _ rfl
  have h13 : val_main_v13 (F := Ideal) i = IntOp.cmpi .eq (val_main_v6 (F := Ideal) (ix1 (i 1))) 0#32 := by
    rw [val_main_v13_apply, val_main_v12_apply, val_main_v7_apply, val_main_v11_apply, e6 _ rfl]; rfl
  have h17 : val_main_v17 (F := Ideal) i = IntOp.addi (val_main_v3 (F := Ideal) (ix1 (i 0))) (val_main_v6 (F := Ideal) (ix1 (i 1))) := by
    rw [val_main_v17_apply, val_main_v15_apply, val_main_v16_apply, val_main_v4_apply, val_main_v7_apply, e3 _ rfl, e6 _ rfl]
  have h18 : val_main_v18 (F := Ideal) i = floorRemR (val_main_v17 (F := Ideal) i) := by
    rw [val_main_v18_apply]
    rw [val_main_call2_v12_apply, val_main_call2_v14_apply, val_main_call2_v11_apply, val_main_call2_v6_apply,
      val_main_call2_v8_apply, val_main_call2_v10_apply, val_main_call2_v13_apply, val_main_call2_v5_apply, val_main_call2_v7_apply,
      val_main_call2_v4_apply, val_main_call2_v3_apply]
    rfl
  rw [val_main_v21_apply, val_main_v14_apply, val_main_v10_apply, val_main_v20_apply, h8, h9, h13, h18, h17, val_main_v19_apply]
  rfl

/-- Where the reference lets a row look at a key. -/
theorem mask_apply (i : S256x4096.Idx) :
    val_main_v21 (F := Ideal) i = BitVec.ofBool (sees ((i 0).val / 64) ((i 1).val / 64)) := by
  have h0 : (i 0).val < 256 := (i 0).isLt
  have h1 : (i 1).val < 4096 := (i 1).isLt
  refine (mask_words i).trans ((congrArg₂ seesR (rowBlk_word (i 0)) (colBlk_word (i 1))).trans ?_)
  exact seesR_word ⟨(i 0).val / 64, by omega⟩ ⟨(i 1).val / 64, by omega⟩

/-- Every row looks at some key. -/
theorem any_apply (i : S256.Idx) : val_main_v32 (F := Ideal) i = 1#1 := by
  unfold val_main_v32
  rw [Host.reduce_eq_fold_single IntOp.ori _ _ reducesTo_S256x4096_S256_d1 (by decide) h_S_ i]
  refine (Idealize.ShloMosaic.Routing.fold_ori _ _).mpr ⟨(0 : Fin 4096), Finset.mem_univ _, ?_⟩
  refine (mask_apply _).trans ?_
  have e (q : ℕ) : sees q ((0 : Fin 4096).val / 64) = true := by simp [sees]
  exact congrArg BitVec.ofBool (e _)

end Cert.AttnValue

end
-- ==== Proof.Val.RefRead.lean ====
/-
  The reference, read at an index: scores, masked softmax, context and output.
-/
module

public import proofs.«01_k».proof.Proof.Val.RefMask

@[expose] public section

noncomputable section

namespace Cert.AttnValue

open Idealize.ShloMosaic Cert.ReferenceIdeal Cert.ReferenceIdeal.Gen Cert.ReferenceIdeal.Read

set_option maxRecDepth 16384

/-- The factor of the scores. -/
abbrev scl : EReal := Ideal.ofBits .f32 0x3DB504F3#32

variable (x0 : (⟨S1x256x1024, .f32⟩ : BufTy).Contents (Elt Ideal)) (x1 : (⟨S1024x4096, .f32⟩ : BufTy).Contents (Elt Ideal))
  (x2 x3 : (⟨S1x4096x32x128, .f32⟩ : BufTy).Contents (Elt Ideal)) (x4 : (⟨S4096x1024, .f32⟩ : BufTy).Contents (Elt Ideal))

/-- A query's entry. -/
def refQ (r : Fin 256) (c : Fin 4096) : EReal := ∑ t : Fin 1024, x0 (ix3 0 r t) * x1 (ix2 t c)

/-- The column of head `h`'s entry `d`. -/
def col (h : Fin 32) (d : Fin 128) : Fin 4096 := ⟨128 * h.val + d.val, by omega⟩

/-- The score of a row and a key under a head. -/
def refScore (h : Fin 32) (r : Fin 256) (k : Fin 4096) : EReal :=
  (∑ d : Fin 128, refQ x0 x1 r (col h d) * x2 (ix4 0 k h d)) * scl

/-- The masked score. -/
def refMasked (h : Fin 32) (r : Fin 256) (k : Fin 4096) : EReal :=
  if sees (r.val / 64) (k.val / 64) then refScore x0 x1 x2 h r k else ⊥

/-- A row's greatest masked score. -/
def refMax (h : Fin 32) (r : Fin 256) : EReal :=
  (Finset.univ : Finset (Fin 4096)).fold max ⊥ (refMasked x0 x1 x2 h r)

/-- A row's unnormalised weight of a key. -/
def refExp (h : Fin 32) (r : Fin 256) (k : Fin 4096) : EReal :=
  Ideal.exp (refMasked x0 x1 x2 h r k - refMax x0 x1 x2 h r)

/-- A row's context under a head. -/
def refCtx (h : Fin 32) (r : Fin 256) (d : Fin 128) : EReal :=
  ∑ k : Fin 4096, x3 (ix4 0 k h d) * Ideal.div (refExp x0 x1 x2 h r k) (∑ j : Fin 4096, refExp x0 x1 x2 h r j)

theorem v0_read (r : Fin 256) (c : Fin 4096) : val_main_v0 (F := Ideal) x0 x1 (ix3 0 r c) = refQ x0 x1 r c := by
  rw [val_main_v0_apply]
  refine Finset.sum_congr rfl fun t _ => congrArg₂ _ (congrArg x0 ?_) (congrArg x1 ?_)
  · funext a; match a with | ⟨0, _⟩ => rfl | ⟨1, _⟩ => rfl | ⟨2, _⟩ => rfl
  · funext a; match a with | ⟨0, _⟩ => rfl | ⟨1, _⟩ => rfl

theorem v1_read (r : Fin 256) (h : Fin 32) (d : Fin 128) :
    val_main_v1 (F := Ideal) x0 x1 (ix4 0 r h d) = refQ x0 x1 r (col h d) := by
  rw [val_main_v1_apply, ← v0_read]
  refine congrArg _ ?_
  funext a
  match a with
  | ⟨0, _⟩ => rfl
  | ⟨1, _⟩ =>
    refine Fin.ext ?_
    show (((0 * 256 + r.val) * 32 + h.val) * 128 + d.val) / 4096 % 256 = r.val
    omega
  | ⟨2, _⟩ =>
    refine Fin.ext ?_
    show (((0 * 256 + r.val) * 32 + h.val) * 128 + d.val) % 4096 = 128 * h.val + d.val
    omega

theorem v24_read (h : Fin 32) (r : Fin 256) (k : Fin 4096) :
    val_main_v24 (F := Ideal) x0 x1 x2 (ix4 0 h r k) = refScore x0 x1 x2 h r k := by
  rw [val_main_v24_apply, val_main_v22_apply, val_main_v23_apply]
  refine congrArg₂ (· * ·) (Finset.sum_congr rfl fun d _ => congrArg₂ _ ?_ (congrArg x2 ?_)) rfl
  · rw [← v1_read]
    refine congrArg _ ?_
    funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

theorem v26_read (h : Fin 32) (r : Fin 256) (k : Fin 4096) :
    val_main_v26 (F := Ideal) x0 x1 x2 (ix4 0 h r k) = refMasked x0 x1 x2 h r k := by
  rw [val_main_v26_apply, v24_read, val_main_call3_v1_apply, val_main_v25_apply, mask_apply, val_main_call3_v2_apply]
  show Scalar.select (BitVec.ofBool (sees (r.val / 64) (k.val / 64))) _ _ = _
  unfold refMasked
  cases sees (r.val / 64) (k.val / 64) <;> rfl

theorem v27_read (h : Fin 32) (r : Fin 256) :
    val_main_v27 (F := Ideal) x0 x1 x2 (ix3 0 h r) = refMax x0 x1 x2 h r := by
  unfold val_main_v27
  rw [Host.reduce_eq_fold_single FloatOps.maximumf _ _ reducesTo_S1x32x256x4096_S1x32x256_d3 (by decide) h_S_]
  unfold refMax
  refine congrArg (Finset.fold max ⊥ · Finset.univ) (funext fun k => ?_)
  refine Eq.trans ?_ (v26_read x0 x1 x2 h r k)
  refine congrArg (val_main_v26 (F := Ideal) x0 x1 x2) ?_
  funext a; exact Fin.ext (by match a with | ⟨0, _⟩ => rfl | ⟨1, _⟩ => rfl | ⟨2, _⟩ => rfl | ⟨3, _⟩ => rfl)

theorem v31_read (h : Fin 32) (r : Fin 256) (k : Fin 4096) :
    val_main_v31 (F := Ideal) x0 x1 x2 (ix4 0 h r k) = refExp x0 x1 x2 h r k := by
  rw [val_main_v31_apply, val_main_v30_apply, v26_read, val_main_v29_apply, val_main_v28_apply]
  have e : idx_main_v28 (idx_main_v29 (ix4 0 h r k)) = ix3 0 h r := by
    funext a; match a with | ⟨0, _⟩ => rfl | ⟨1, _⟩ => rfl | ⟨2, _⟩ => rfl
  rw [e, v27_read]
  rfl

theorem v36_read (h : Fin 32) (r : Fin 256) (i : S1x32x256x1.Idx) (h1 : i 1 = h) (h2 : i 2 = r) :
    val_main_v36 (F := Ideal) x0 x1 x2 i = ∑ j : Fin 4096, refExp x0 x1 x2 h r j := by
  rw [val_main_v36_apply, val_main_call4_v1_apply, val_main_v33_apply, any_apply, val_main_v35_apply, val_main_v34_apply]
  show val_main_cst_7 (F := Ideal) _ + _ = _
  rw [val_main_cst_7_apply, show (FloatOps.ofBits .f32 0x00000000#32 : Ideal .f32) = 0 from Ideal.ofBits_zero_f32, zero_add]
  refine Finset.sum_congr rfl fun j _ => ?_
  rw [← v31_read]
  subst h1 h2
  refine congrArg _ ?_
  funext a; match a with | ⟨0, _⟩ => rfl | ⟨1, _⟩ => rfl | ⟨2, _⟩ => rfl | ⟨3, _⟩ => rfl

theorem v40_read (h : Fin 32) (r : Fin 256) (k : Fin 4096) :
    val_main_v40 (F := Ideal) x0 x1 x2 (ix4 0 h r k)
      = Ideal.div (refExp x0 x1 x2 h r k) (∑ j : Fin 4096, refExp x0 x1 x2 h r j) := by
  rw [val_main_v40_apply, val_main_call5_v1_apply, val_main_v39_apply, any_apply, val_main_v38_apply, v31_read, val_main_v37_apply,
    v36_read x0 x1 x2 h r _ rfl rfl]
  rfl

theorem v41_read (h : Fin 32) (d : Fin 128) (r : Fin 256) :
    val_main_v41 (F := Ideal) x0 x1 x2 x3 (ix4 0 h d r) = refCtx x0 x1 x2 x3 h r d := by
  rw [val_main_v41_apply]
  refine Finset.sum_congr rfl fun k _ => congrArg₂ _ (congrArg x3 ?_) ?_
  · funext a; match a with | ⟨0, _⟩ => rfl | ⟨1, _⟩ => rfl | ⟨2, _⟩ => rfl | ⟨3, _⟩ => rfl
  · rw [← v40_read]
    refine congrArg _ ?_
    funext a; match a with | ⟨0, _⟩ => rfl | ⟨1, _⟩ => rfl | ⟨2, _⟩ => rfl | ⟨3, _⟩ => rfl

theorem v43_read (r : Fin 256) (h : Fin 32) (d : Fin 128) :
    val_main_v43 (F := Ideal) x0 x1 x2 x3 (ix3 0 r (col h d)) = refCtx x0 x1 x2 x3 h r d := by
  rw [val_main_v43_apply, val_main_v42_apply, ← v41_read]
  refine congrArg _ ?_
  funext a
  match a with
  | ⟨0, _⟩ => rfl
  | ⟨1, _⟩ =>
    refine Fin.ext ?_
    show ((0 * 256 + r.val) * 4096 + (128 * h.val + d.val)) / 128 % 32 = h.val
    omega
  | ⟨2, _⟩ =>
    refine Fin.ext ?_
    show ((0 * 256 + r.val) * 4096 + (128 * h.val + d.val)) % 128 = d.val
    omega
  | ⟨3, _⟩ =>
    refine Fin.ext ?_
    show ((0 * 256 + r.val) * 4096 + (128 * h.val + d.val)) / 4096 % 256 = r.val
    omega

/-- A sum over the columns is the sum over heads and their entries. -/
theorem sum_cols {M : Type} [AddCommMonoid M] (f : Fin 4096 → M) : ∑ c, f c = ∑ h : Fin 32, ∑ d : Fin 128, f (col h d) := by
  rw [← Equiv.sum_comp (finProdFinEquiv (m := 32) (n := 128)) f, Fintype.sum_prod_type]
  refine Finset.sum_congr rfl fun h _ => Finset.sum_congr rfl fun d _ => congrArg f (Fin.ext ?_)
  show d.val + 128 * h.val = 128 * h.val + d.val
  omega

/-- The reference's result at a row and a column. -/
theorem v44_read (r : Fin 256) (j : Fin 1024) :
    val_main_v44 (F := Ideal) x0 x1 x2 x3 x4 (ix3 0 r j)
      = ∑ h : Fin 32, ∑ d : Fin 128, refCtx x0 x1 x2 x3 h r d * x4 (ix2 (col h d) j) := by
  rw [val_main_v44_apply, sum_cols]
  refine Finset.sum_congr rfl fun h _ => Finset.sum_congr rfl fun d _ => congrArg₂ _ ?_ (congrArg x4 ?_)
  · rw [← v43_read]
    refine congrArg _ ?_
    funext a; match a with | ⟨0, _⟩ => rfl | ⟨1, _⟩ => rfl | ⟨2, _⟩ => rfl
  · funext a; match a with | ⟨0, _⟩ => rfl | ⟨1, _⟩ => rfl

end Cert.AttnValue

end
-- ==== Proof.Val.Weights.lean ====
/-
  The one identity of the soft maximum that the claim rests on, over the extended reals: a row of real scores, some keys
  masked, the row maximum taken off or not, the division before the values are summed or after.
-/
module

public import Idealize.ShloMosaic.PureOps
public import Idealize.ShloMosaic.Lib.ValueIdx

@[expose] public section

noncomputable section

namespace Cert.AttnValue

open Idealize.ShloMosaic

/-- A nonnegative real factor moves into a sum of extended reals. -/
theorem sum_mul_coe {ι : Type} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A sum of reals, as an extended real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

section Row

variable {n : ℕ} (A : Fin n → Prop) [DecidablePred A] (a : Fin n → ℝ) (v : Fin n → EReal) (M : ℝ)

/-- The weight of key `k` before the division: zero where the key is masked. -/
def wt (k : Fin n) : ℝ := if A k then Real.exp (a k) else 0

theorem wt_nonneg (k : Fin n) : 0 ≤ wt A a k := by
  unfold wt; split
  · exact (Real.exp_pos _).le
  · exact le_refl 0

/-- A row with a key that is not masked has a positive sum of weights. -/
theorem sum_wt_pos {k₀ : Fin n} (h₀ : A k₀) : 0 < ∑ k, wt A a k :=
  Finset.sum_pos' (fun k _ => wt_nonneg A a k) ⟨k₀, Finset.mem_univ _, by unfold wt; rw [if_pos h₀]; exact Real.exp_pos _⟩

/-- The exponential of the score plus the mask's bias is the weight. -/
theorem exp_bias (k : Fin n) : Ideal.exp ((a k : EReal) + (if A k then 0 else ⊥)) = (wt A a k : EReal) := by
  unfold wt
  split
  · rw [add_zero, Ideal.exp_coe]
  · rw [EReal.add_bot, Ideal.exp_bot]; rfl

/-- The exponential of the masked score less the row's maximum is the weight over the maximum's exponential. -/
theorem exp_sub (k : Fin n) :
    Ideal.exp ((if A k then (a k : EReal) else ⊥) - (M : EReal)) = ((wt A a k * Real.exp (-M) : ℝ) : EReal) := by
  unfold wt
  split
  · rw [← EReal.coe_sub, Ideal.exp_coe, sub_eq_add_neg, Real.exp_add]
  · rw [EReal.bot_sub, Ideal.exp_bot, zero_mul]; rfl

/-- **The two soft maxima agree.** The values summed under the exponentials of the biased scores and divided by the sum of
    the exponentials, against the values summed under the divided exponentials of the masked scores less a real `M`. -/
theorem softmax_rows {k₀ : Fin n} (h₀ : A k₀) :
    Ideal.div (∑ k, Ideal.exp ((a k : EReal) + (if A k then 0 else ⊥)) * v k)
        (∑ k, Ideal.exp ((a k : EReal) + (if A k then 0 else ⊥)))
      = ∑ k, v k * Ideal.div (Ideal.exp ((if A k then (a k : EReal) else ⊥) - (M : EReal)))
          (∑ j, Ideal.exp ((if A j then (a j : EReal) else ⊥) - (M : EReal))) := by
  have hS := sum_wt_pos A a h₀
  have hM := Real.exp_pos (-M)
  simp only [exp_bias, exp_sub]
  rw [← coe_sum, ← coe_sum, ← Finset.sum_mul, Ideal.div_coe hS.ne', sum_mul_coe _ _ (by positivity)]
  refine Finset.sum_congr rfl fun k _ => ?_
  rw [Ideal.div_coe (mul_pos hS hM).ne', ← EReal.coe_mul, mul_comm (wt A a k : EReal) (v k), mul_assoc, ← EReal.coe_mul]
  refine congrArg (fun r : ℝ => v k * (r : EReal)) ?_
  field_simp

/-- The maximum of a row's masked scores is a real. -/
theorem fold_max_real {k₀ : Fin n} (h₀ : A k₀) :
    ∃ M : ℝ, Finset.univ.fold max (⊥ : EReal) (fun k => if A k then (a k : EReal) else ⊥) = (M : EReal) := by
  set T := Finset.univ.fold max (⊥ : EReal) (fun k => if A k then (a k : EReal) else ⊥) with hT
  have htop : T < ⊤ := by
    rw [hT, Finset.fold_max_lt]
    exact ⟨bot_lt_top, fun k _ => by split; exact EReal.coe_lt_top _; exact bot_lt_top⟩
  have hbot : (a k₀ : EReal) ≤ T := by
    rw [hT, Finset.le_fold_max]
    exact .inr ⟨k₀, Finset.mem_univ _, by rw [if_pos h₀]⟩
  exact ⟨T.toReal, (EReal.coe_toReal htop.ne (fun h => absurd (h ▸ hbot) (by simp))).symm⟩

end Row

end Cert.AttnValue

end
-- ==== Proof.Val.Devices.lean ====
/-
  What the devices hold together: each device's heads are the reference's, and the two exchanges add up all four devices.
-/
module

public import proofs.«01_k».proof.Proof.Val.RefRead
public import proofs.«01_k».proof.Proof.Val.Weights
public import proofs.«01_k».proof.Proof.Attn.Proto

@[expose] public section

noncomputable section

namespace Cert.AttnValue

open Idealize.ShloMosaic Cert.KernelIdeal Cert.KernelIdeal.Gen Cert.AttnProof

set_option maxRecDepth 16384

variable (m : (ℓ : Loc nD τ sig) → Buf (Elt Ideal) ℓ)
  (x0 : FVec Ideal S1x256x1024 .f32) (x1 : FVec Ideal Cert.ReferenceIdeal.S1024x4096 .f32)
  (x2 x3 : FVec Ideal S1x4096x32x128 .f32) (x4 : FVec Ideal Cert.ReferenceIdeal.S4096x1024 .f32)

/-- Column or row `j` of device `c`'s block, in the whole array. -/
def inBlock (c : Dev nD) (j : Fin 1024) : Fin 4096 := ⟨1024 * c.val + j.val, by have h : c.val < 4 := c.isLt; omega⟩

/-- The devices hold the whole arrays: copies of the queries' input, keys and values, column blocks of `Wq`, row blocks of `Wo`. -/
structure Held : Prop where
  x : ∀ c, xC m c = x0
  wq : ∀ c (t j : Fin 1024), wqC m c (ix2 t j) = x1 (ix2 t (inBlock c j))
  key : ∀ c, keyC m c = x2
  val : ∀ c, valC m c = x3
  wo : ∀ c (r j : Fin 1024), woC m c (ix2 r j) = x4 (ix2 (inBlock c r) j)

/-- The entries that the scores are made of are real numbers. -/
structure Reals : Prop where
  x : ∀ i, ∃ f : ℝ, x0 i = (f : EReal)
  wq : ∀ i, ∃ f : ℝ, x1 i = (f : EReal)
  key : ∀ i, ∃ f : ℝ, x2 i = (f : EReal)

/-- A load of a head off a buffer of eight. -/
theorem rdHd_apply (f : S8x4096x128.Idx → Elt Ideal .f32) (h : Fin 8) (k : Fin 4096) (d : Fin 128) :
    rdHd f h (ix3 0 k d) = f (ix3 h k d) := by
  refine congrArg f ?_
  funext a
  refine Fin.ext ?_
  match a with
  | ⟨0, _⟩ => show h.val + 1 * 0 = h.val; omega
  | ⟨1, _⟩ => show 0 + 1 * k.val = k.val; omega
  | ⟨2, _⟩ => show 0 + 1 * d.val = d.val; omega

/-- A load of a head's rows of the output matrix. -/
theorem rdWo_apply (f : S1024x1024.Idx → Elt Ideal .f32) (h : Fin 8) (d : Fin 128) (j : Fin 1024) :
    rdWo f h (ix2 d j) = f (ix2 ⟨128 * h.val + d.val, by omega⟩ j) := by
  refine congrArg f ?_
  funext a
  refine Fin.ext ?_
  match a with
  | ⟨0, _⟩ => show 128 * h.val + 1 * d.val = 128 * h.val + d.val; omega
  | ⟨1, _⟩ => show 0 + 1 * j.val = j.val; omega

section
variable {m x0 x1 x2 x3 x4}

theorem kC_apply (H : Held m x0 x1 x2 x3 x4) (c : Dev nD) (h : Fin 8) (k : Fin 4096) (d : Fin 128) :
    rdHd (kC m c) h (ix3 0 k d) = x2 (ix4 0 k (head c h) d) := by
  rw [rdHd_apply, ← H.key c]; rfl

theorem vC_apply (H : Held m x0 x1 x2 x3 x4) (c : Dev nD) (h : Fin 8) (k : Fin 4096) (d : Fin 128) :
    rdHd (vC m c) h (ix3 0 k d) = x3 (ix4 0 k (head c h) d) := by
  rw [rdHd_apply, ← H.val c]; rfl

theorem col_head (c : Dev nD) (h : Fin 8) (d : Fin 128) : inBlock c ⟨128 * h.val + d.val, by omega⟩ = col (head c h) d := by
  refine Fin.ext ?_
  show 1024 * c.val + (128 * h.val + d.val) = 128 * (8 * c.val + h.val) + d.val
  omega

theorem woC_apply (H : Held m x0 x1 x2 x3 x4) (c : Dev nD) (h : Fin 8) (d : Fin 128) (j : Fin 1024) :
    rdWo (woC m c) h (ix2 d j) = x4 (ix2 (col (head c h) d) j) := by
  rw [rdWo_apply, H.wo, col_head]

/-- Row `i` of query block `q`. -/
def row (q : Fin 4) (i : Fin 64) : Fin 256 := ⟨64 * q.val + i.val, by omega⟩

theorem query_apply (H : Held m x0 x1 x2 x3 x4) (c : Dev nD) (q : Fin 4) (h : Fin 8) (i : Fin 64) (d : Fin 128) :
    qSlice (qAll (xC m c) (wqC m c)) q h (ix2 i d) = refQ x0 x1 (row q i) (col (head c h) d) * scl := by
  rw [qSlice_apply, qAll_apply, H.x]
  refine congrArg (· * scl) (Finset.sum_congr rfl fun t _ => congrArg₂ _ rfl ?_)
  rw [H.wq, col_head]

theorem refQ_real (R : Reals x0 x1 x2) (r : Fin 256) (c : Fin 4096) : ∃ f : ℝ, refQ x0 x1 r c = (f : EReal) := by
  choose f hf using R.x
  choose g hg using R.wq
  refine ⟨∑ t : Fin 1024, f (ix3 0 r t) * g (ix2 t c), ?_⟩
  rw [coe_sum]
  unfold refQ
  refine Finset.sum_congr rfl fun t _ => ?_
  rw [hf, hg, EReal.coe_mul]

theorem scl_real : ∃ s : ℝ, scl = (s : EReal) := by
  refine ⟨scl.toReal, (EReal.coe_toReal ?_ ?_).symm⟩ <;> simp [scl, Ideal.ofBits, Ideal.ieee, -EReal.coe_mul]

/-- With real entries the score is real, and scaling the query is scaling the score. -/
theorem score_real (R : Reals x0 x1 x2) (h : Fin 32) (r : Fin 256) (k : Fin 4096) :
    ∃ f : ℝ, refScore x0 x1 x2 h r k = (f : EReal)
      ∧ ∑ d : Fin 128, (refQ x0 x1 r (col h d) * scl) * x2 (ix4 0 k h d) = (f : EReal) := by
  choose f hf using refQ_real R
  choose g hg using R.key
  obtain ⟨s, hs⟩ := scl_real
  refine ⟨(∑ d : Fin 128, f r (col h d) * g (ix4 0 k h d)) * s, ?_, ?_⟩
  · rw [EReal.coe_mul, coe_sum]
    unfold refScore
    rw [hs]
    refine congrArg (· * (s : EReal)) (Finset.sum_congr rfl fun d _ => ?_)
    rw [hf, hg, EReal.coe_mul]
  · rw [Finset.sum_mul, coe_sum]
    refine Finset.sum_congr rfl fun d _ => ?_
    rw [hf, hg, hs, ← EReal.coe_mul, ← EReal.coe_mul]
    congr 1; ring

/-- A head's context on its device is the reference's. -/
theorem ctx_apply (H : Held m x0 x1 x2 x3 x4) (R : Reals x0 x1 x2) (c : Dev nD) (q : Fin 4) (h : Fin 8) (i : Fin 64) (d : Fin 128) :
    ctxv (biasOf q) (qSlice (qAll (xC m c) (wqC m c)) q h) (rdHd (kC m c) h) (rdHd (vC m c) h) (ix2 i d)
      = refCtx x0 x1 x2 x3 (head c h) (row q i) d := by
  choose a ha ha' using fun k => score_real R (head c h) (row q i) k
  have hb : (row q i).val / 64 = q.val := by show (64 * q.val + i.val) / 64 = q.val; omega
  have he (k : Fin 4096) : expo (biasOf q) (qSlice (qAll (xC m c) (wqC m c)) q h) (rdHd (kC m c) h) (ix2 i k)
      = Ideal.exp ((a k : EReal) + (if (sees q (k.val / 64) = true) then 0 else ⊥)) := by
    rw [expo_apply, biasOf_apply, ← ha' k]
    simp only [query_apply H, kC_apply H]
  have hm (k : Fin 4096) : refMasked x0 x1 x2 (head c h) (row q i) k = if (sees q (k.val / 64) = true) then (a k : EReal) else ⊥ := by
    unfold refMasked
    rw [hb, ha]
  have h0 : sees q ((0 : Fin 4096).val / 64) = true := by simp [sees]
  obtain ⟨M, hM⟩ := fold_max_real (fun k : Fin 4096 => sees q (k.val / 64) = true) a h0
  have hmax : refMax x0 x1 x2 (head c h) (row q i) = (M : EReal) := by
    rw [← hM]; unfold refMax
    exact congrArg (Finset.fold max ⊥ · Finset.univ) (funext hm)
  have hx (k : Fin 4096) : refExp x0 x1 x2 (head c h) (row q i) k
      = Ideal.exp ((if (sees q (k.val / 64) = true) then (a k : EReal) else ⊥) - (M : EReal)) := by
    unfold refExp
    rw [hm, hmax]
  rw [ctxv_apply]
  unfold refCtx
  simp only [he, hx, vC_apply H]
  exact softmax_rows (fun k : Fin 4096 => sees q (k.val / 64) = true) a (fun k => x3 (ix4 0 k (head c h) d)) M h0

/-- A device's partial result is its eight heads' share of the reference's. -/
theorem accC_apply (H : Held m x0 x1 x2 x3 x4) (R : Reals x0 x1 x2) (c : Dev nD) (q : Fin 4) (i : Fin 64) (j : Fin 1024) :
    accC m c q (ix3 0 i j)
      = ∑ h : Fin 8, ∑ d : Fin 128, refCtx x0 x1 x2 x3 (head c h) (row q i) d * x4 (ix2 (col (head c h) d) j) := by
  unfold accC
  rw [accSt_apply, heads_apply]
  exact Finset.sum_congr rfl fun h _ => Finset.sum_congr rfl fun d _ => congrArg₂ _ (ctx_apply H R c q h i d) (woC_apply H c h d j)

end

/-- The two exchanges visit each of the four devices once. -/
theorem sum_devices {M : Type} [AddCommMonoid M] (f : Fin 4 → M) (c : Dev nD) :
    (f c + f (p1 c)) + (f (p2 c) + f (p1 (p2 c))) = ∑ e : Fin 4, f e := by
  have key : ∀ c : Fin 4, (p1 c = (1 : Fin 4) ∧ c = (0 : Fin 4) ∧ p2 c = (3 : Fin 4) ∧ p1 (p2 c) = (2 : Fin 4)) ∨ (p1 c = (0 : Fin 4) ∧ c = (1 : Fin 4) ∧ p2 c = (2 : Fin 4) ∧ p1 (p2 c) = (3 : Fin 4))
      ∨ (p1 c = (3 : Fin 4) ∧ c = (2 : Fin 4) ∧ p2 c = (1 : Fin 4) ∧ p1 (p2 c) = (0 : Fin 4)) ∨ (p1 c = (2 : Fin 4) ∧ c = (3 : Fin 4) ∧ p2 c = (0 : Fin 4) ∧ p1 (p2 c) = (1 : Fin 4)) := by decide
  rw [Fin.sum_univ_four]
  rcases key c with ⟨h1, h0, h2, h3⟩ | ⟨h1, h0, h2, h3⟩ | ⟨h1, h0, h2, h3⟩ | ⟨h1, h0, h2, h3⟩ <;>
    (rw [h3, h1, h2, h0]; ac_rfl)

/-- The sum over all heads is the sum over devices of the sum over each device's heads. -/
theorem sum_heads {M : Type} [AddCommMonoid M] (f : Fin 32 → M) : ∑ h, f h = ∑ c : Dev nD, ∑ h : Fin 8, f (head c h) := by
  show _ = ∑ c : Fin 4, ∑ h : Fin 8, f (head c h)
  rw [← Equiv.sum_comp (finProdFinEquiv (m := 4) (n := 8)) f, Fintype.sum_prod_type]
  refine Finset.sum_congr rfl fun c _ => Finset.sum_congr rfl fun h _ => congrArg f (Fin.ext ?_)
  show h.val + 8 * c.val = 8 * c.val + h.val
  omega

section
variable {m x0 x1 x2 x3 x4}

/-- Every device's result is the reference's. -/
theorem outC_eq (H : Held m x0 x1 x2 x3 x4) (R : Reals x0 x1 x2) (c : Dev nD) :
    outC m c = Cert.ReferenceIdeal.Read.val_main_v44 (F := Ideal) x0 x1 x2 x3 x4 := by
  have hi (i : S1x256x1024.Idx) : ∃ (q : Fin 4) (a : Fin 64) (j : Fin 1024), i = ix3 0 (row q a) j := by
    have h1 : (i 1).val < 256 := (i 1).isLt
    refine ⟨⟨(i 1).val / 64, by omega⟩, ⟨(i 1).val % 64, by omega⟩, i 2, ?_⟩
    funext a
    match a with
    | ⟨0, _⟩ => exact Subsingleton.elim (α := Fin 1) _ _
    | ⟨1, _⟩ =>
      refine Fin.ext ?_
      show (i 1).val = 64 * ((i 1).val / 64) + (i 1).val % 64
      omega
    | ⟨2, _⟩ => rfl
  funext i
  obtain ⟨q, a, j, rfl⟩ := hi i
  have ho : outC m c (ix3 0 (row q a) j) = sumC m c q (ix3 0 a j) := by
    have e1 : (⟨(64 * q.val + a.val) / 64, by omega⟩ : Fin 4) = q := Fin.ext (by show (64 * q.val + a.val) / 64 = q.val; omega)
    have e2 : (⟨(64 * q.val + a.val) % 64, by omega⟩ : Fin 64) = a := Fin.ext (by show (64 * q.val + a.val) % 64 = a.val; omega)
    show sumC m c (⟨(64 * q.val + a.val) / 64, by omega⟩ : Fin 4) (ix3 0 (⟨(64 * q.val + a.val) % 64, by omega⟩ : Fin 64) j) = _
    rw [e1, e2]
  rw [ho, v44_read, sum_heads]
  unfold sumC midC
  rw [outSt_eq_midSt, midSt_apply, midSt_apply, midSt_apply]
  refine (sum_devices (fun e => accC m e q (ix3 0 a j)) c).trans ?_
  exact Finset.sum_congr rfl fun e _ => accC_apply H R e q a j

end

end Cert.AttnValue

end
-- ==== Proof.Val.Finite.lean ====
/-
  The precondition read back: the entries of `x`, of the block of `Wq` and of the keys are real numbers.
-/
module

public import Idealize.ShloMosaic.Lib.ReduceAll
public import proofs.«01_k».proof.Proof.Val.Weights
public import proofs.«01_k».proof.Pre_finite_KernelIdeal

@[expose] public section

noncomputable section

namespace Cert.AttnValue

open Idealize.ShloMosaic Cert.Pre_finite_KernelIdeal

/-- An extended real whose absolute value is below +∞ is a real number. -/
theorem real_of_abs_lt (x : EReal) (h : max x (-x) < ⊤) : ∃ f : ℝ, x = (f : EReal) := by
  refine ⟨x.toReal, (EReal.coe_toReal ?_ ?_).symm⟩
  · rintro rfl
    exact absurd ((le_max_left _ _).trans_lt h) (lt_irrefl _)
  · rintro rfl
    exact absurd ((le_max_right _ _).trans_lt h) (by simp)

theorem bits_top : Ideal.ofBits .f32 0x7F800000#32 = ⊤ := by simp [Ideal.ofBits, Ideal.ieee]

/-- The comparison the precondition makes of an entry. -/
theorem real_of_cmp (x : EReal) (h : Ideal.cmp .olt (max x (-x)) (Ideal.ofBits .f32 0x7F800000#32) = 1#1) : ∃ f : ℝ, x = (f : EReal) := by
  rw [bits_top] at h
  refine real_of_abs_lt x ?_
  by_contra hn
  have : Ideal.cmp .olt (max x (-x)) ⊤ = 0#1 := by
    show BitVec.ofBool (decide _) = 0#1
    rw [decide_eq_false hn]; rfl
  rw [this] at h
  exact absurd h (by decide)

instance : Subsingleton S_.Idx := ⟨fun a b => funext fun i => i.elim0⟩

/-- An array whose entries all pass the comparison has real entries. -/
theorem reals_of_all [Facts] {s : Shape} {axes : List (Fin s.rank)} (a : FVec Ideal s .f32) (hb : S_.BroadcastsInDim s (![] : Fin 0 → Fin s.rank))
    (hr : s.ReducesTo axes S_) (hu : 0 < S_.numel) (j : S_.Idx)
    (h : Host.reduce IntOp.andi (cmpf .olt (Host.absf a) (broadcastInDim s ![] hb (constant (F := Ideal) S_ .f32 0x7F800000#32)))
      (constantI S_ 1 1#1) hr hu j = 1#1) (i : s.Idx) : ∃ f : ℝ, a i = (f : EReal) :=
  real_of_cmp (a i) (Host.reduce_andi_all _ _ hr hu j h i)

/-- The precondition, read. -/
theorem reals_of_finite [Facts] (a0 : FVec Ideal S1x256x1024 .f32) (a1 : FVec Ideal S1024x1024 .f32) (a2 a3 : FVec Ideal S1x4096x32x128 .f32)
    (a4 : FVec Ideal S1024x1024 .f32) (h : fn (F := Ideal) a0 a1 a2 a3 a4 = fun _ => 1#1) :
    (∀ i, ∃ f : ℝ, a0 i = (f : EReal)) ∧ (∀ i, ∃ f : ℝ, a1 i = (f : EReal)) ∧ ∀ i, ∃ f : ℝ, a2 i = (f : EReal) := by
  have hj := congrFun h (fun a => a.elim0)
  obtain ⟨h01, h2⟩ := IntOp.andi_eq_one.1 hj
  obtain ⟨h0, h1⟩ := IntOp.andi_eq_one.1 h01
  exact ⟨reals_of_all a0 _ _ _ _ h0, reals_of_all a1 _ _ _ _ h1, reals_of_all a2 _ _ _ _ h2⟩

end Cert.AttnValue

end
-- ==== Proof.Val.Algebraic.lean ====
/-
  The value claim: on every device the kernel's result is the reference's, entry for entry over the extended reals.
-/
module

public import proofs.«01_k».proof.Proof.Val.Devices
public import proofs.«01_k».proof.Proof.Val.Finite
public import proofs.«01_k».proof.Proof.Attn.Frames

@[expose] public section

noncomputable section

namespace Cert.AttnValue

open Idealize.ShloMosaic Idealize.SL.Sem Cert.AttnProof

/-- A column block of an array of 4096 columns, at an entry. -/
theorem block_col {α : Type} (v : (⟨2, ![1024, 4096]⟩ : Shape).Idx → α) (c : Fin 4) (t j : Fin 1024) :
    Layout.block ⟨2, ![1024, 1024]⟩ ⟨2, ![1024, 4096]⟩ 1 4 c v (by decide) (ix2 t j) = v (ix2 t (inBlock c j)) := by
  rw [Layout.block_apply]
  refine congrArg v ?_
  funext a
  refine Fin.ext ?_
  rw [Layout.Tiles.idx_val]
  match a with
  | ⟨0, _⟩ => rfl
  | ⟨1, _⟩ => show c.val * 1024 + j.val = 1024 * c.val + j.val; omega

/-- A row block of an array of 4096 rows, at an entry. -/
theorem block_row {α : Type} (v : (⟨2, ![4096, 1024]⟩ : Shape).Idx → α) (c : Fin 4) (r j : Fin 1024) :
    Layout.block ⟨2, ![1024, 1024]⟩ ⟨2, ![4096, 1024]⟩ 0 4 c v (by decide) (ix2 r j) = v (ix2 (inBlock c r) j) := by
  rw [Layout.block_apply]
  refine congrArg v ?_
  funext a
  refine Fin.ext ?_
  rw [Layout.Tiles.idx_val]
  match a with
  | ⟨0, _⟩ => show c.val * 1024 + r.val = 1024 * c.val + r.val; omega
  | ⟨1, _⟩ => rfl

/-- Kernel and reference agree on the whole result, on every device, where the scores' inputs are finite. -/
theorem value_claim : Cert.algebraic_KernelIdeal_ReferenceIdeal_pre_finite_KernelIdeal := by
  intro m g m' g' hpre hin
  let x0 := m' (((0 : Dev Cert.ReferenceIdeal.nD).tc : Thread Cert.ReferenceIdeal.nD Cert.ReferenceIdeal.τ).loc Cert.ReferenceIdeal.main_arg0)
  let x1 := m' (((0 : Dev Cert.ReferenceIdeal.nD).tc : Thread Cert.ReferenceIdeal.nD Cert.ReferenceIdeal.τ).loc Cert.ReferenceIdeal.main_arg1)
  let x2 := m' (((0 : Dev Cert.ReferenceIdeal.nD).tc : Thread Cert.ReferenceIdeal.nD Cert.ReferenceIdeal.τ).loc Cert.ReferenceIdeal.main_arg2)
  let x3 := m' (((0 : Dev Cert.ReferenceIdeal.nD).tc : Thread Cert.ReferenceIdeal.nD Cert.ReferenceIdeal.τ).loc Cert.ReferenceIdeal.main_arg3)
  let x4 := m' (((0 : Dev Cert.ReferenceIdeal.nD).tc : Thread Cert.ReferenceIdeal.nD Cert.ReferenceIdeal.τ).loc Cert.ReferenceIdeal.main_arg4)
  have H : Held m x0 x1 x2 x3 x4 :=
    { x := fun c => (hin c).1
      wq := fun c t j => (congrFun (hin c).2.1 (ix2 t j)).trans (block_col x1 c t j)
      key := fun c => (hin c).2.2.1
      val := fun c => (hin c).2.2.2.1
      wo := fun c r j => (congrFun (hin c).2.2.2.2 (ix2 r j)).trans (block_row x4 c r j) }
  have hf (c : Dev Cert.KernelIdeal.nD) := reals_of_finite (xC m c) (wqC m c) (keyC m c) (valC m c) (woC m c) (hpre c)
  have R : Reals x0 x1 x2 :=
    { x := fun i => H.x 0 ▸ (hf 0).1 i
      wq := fun i => by
        have hc : (i 1).val < 4096 := (i 1).isLt
        obtain ⟨f, e⟩ := (hf ⟨(i 1).val / 1024, by show _ < 4; omega⟩).2.1 (ix2 (i 0) ⟨(i 1).val % 1024, by omega⟩)
        refine ⟨f, Eq.trans ?_ ((H.wq _ (i 0) _).symm.trans e)⟩
        refine congrArg x1 ?_
        funext a
        match a with
        | ⟨0, _⟩ => rfl
        | ⟨1, _⟩ =>
          refine Fin.ext ?_
          show (i 1).val = 1024 * ((i 1).val / 1024) + (i 1).val % 1024
          omega
      key := fun i => H.key 0 ▸ (hf 0).2.2 i }
  refine ⟨Cert.ReferenceIdeal.Read.val_main_v44 (F := Ideal) x0 x1 x2 x3 x4, ?_, ?_⟩
  · exact (θ_run Cert.KernelIdeal.defs _ _).mono
      (fun r h c => ⟨(h.1 c).1.trans (outC_eq H R c), (h.1 c).2⟩) (run_main m g)
  · exact (θ_run Cert.ReferenceIdeal.defs _ _).mono
      (fun r h => ⟨(h 0).1.trans (Cert.ReferenceIdeal.Read.val_main_v44_eq m' 0), (h 0).2⟩)
      (Cert.ReferenceIdeal.Value.run (F := Ideal) m' g')

end Cert.AttnValue

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.Attn.Frames
public import proofs.«01_k».proof.Proof.Val.Algebraic

@[expose] public section

noncomputable section

namespace Cert.Proof

open Idealize.ShloMosaic Idealize.SL.Sem Cert.AttnProof

theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  frame_kernel, frame_ideal, frame_ideal_finite, frame_reference, frame_reference_finite, mask_preserved, Cert.AttnValue.value_claim⟩

end Cert.Proof

end
